-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Counts (m : (ℓ : Loc Cert.Counts.nD Cert.Counts.τ Cert.Counts.sig) → Buf (Elt Bits) ℓ) : Prop :=
  True

def Pre_CountsIdeal (m : (ℓ : Loc Cert.CountsIdeal.nD Cert.CountsIdeal.τ Cert.CountsIdeal.sig) → Buf (Elt Ideal) ℓ) : Prop :=
  True

def Pre_CountsReferenceIdeal (m : (ℓ : Loc Cert.CountsReferenceIdeal.nD Cert.CountsReferenceIdeal.τ Cert.CountsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Counts [hCounts : Cert.Counts.Facts] : Prop :=
  ∀ (m : (ℓ : Loc Cert.Counts.nD Cert.Counts.τ Cert.Counts.sig) → Buf (Elt Bits) ℓ) (g : Dev Cert.Counts.nD → PrngReg), Pre_Counts m →
    θ_run (Cert.Counts.defs (F := Bits)) (onTc (τ := Cert.Counts.τ) (Cert.Counts.main (F := Bits))) ⟨m, fun _ => 0, g⟩ (fun r => (∀ c : Dev Cert.Counts.nD,
      r.2.mem ((c.tc : Thread Cert.Counts.nD Cert.Counts.τ).loc Cert.Counts.main_arg0) = m ((c.tc : Thread Cert.Counts.nD Cert.Counts.τ).loc Cert.Counts.main_arg0))
      ∧ r.2.sem = fun _ => 0)

def quiescent_CountsIdeal [hCountsIdeal : Cert.CountsIdeal.Facts] : Prop :=
  ∀ (m : (ℓ : Loc Cert.CountsIdeal.nD Cert.CountsIdeal.τ Cert.CountsIdeal.sig) → Buf (Elt Ideal) ℓ) (g : Dev Cert.CountsIdeal.nD → PrngReg), Pre_CountsIdeal m →
    θ_run (Cert.CountsIdeal.defs (F := Ideal)) (onTc (τ := Cert.CountsIdeal.τ) (Cert.CountsIdeal.main (F := Ideal))) ⟨m, fun _ => 0, g⟩ (fun r => (∀ c : Dev Cert.CountsIdeal.nD,
      r.2.mem ((c.tc : Thread Cert.CountsIdeal.nD Cert.CountsIdeal.τ).loc Cert.CountsIdeal.main_arg0) = m ((c.tc : Thread Cert.CountsIdeal.nD Cert.CountsIdeal.τ).loc Cert.CountsIdeal.main_arg0))
      ∧ r.2.sem = fun _ => 0)

def quiescent_CountsReferenceIdeal [hCountsReferenceIdeal : Cert.CountsReferenceIdeal.Facts] : Prop :=
  ∀ (m : (ℓ : Loc Cert.CountsReferenceIdeal.nD Cert.CountsReferenceIdeal.τ Cert.CountsReferenceIdeal.sig) → Buf (Elt Ideal) ℓ) (g : Dev Cert.CountsReferenceIdeal.nD → PrngReg), Pre_CountsReferenceIdeal m →
    θ_run (Cert.CountsReferenceIdeal.defs (F := Ideal)) (onTc (τ := Cert.CountsReferenceIdeal.τ) (Cert.CountsReferenceIdeal.main (F := Ideal))) ⟨m, fun _ => 0, g⟩ (fun r => (∀ c : Dev Cert.CountsReferenceIdeal.nD,
      r.2.mem ((c.tc : Thread Cert.CountsReferenceIdeal.nD Cert.CountsReferenceIdeal.τ).loc Cert.CountsReferenceIdeal.main_arg0) = m ((c.tc : Thread Cert.CountsReferenceIdeal.nD Cert.CountsReferenceIdeal.τ).loc Cert.CountsReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 2048, 128]⟩ ⟨3, ![8, 16384, 128]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_Counts_CountsIdeal : Prop :=
  True

def algebraic_CountsIdeal_CountsReferenceIdeal [hCountsIdeal : Cert.CountsIdeal.Facts] [hCountsReferenceIdeal : Cert.CountsReferenceIdeal.Facts] : Prop :=
  ∀ (m : (ℓ : Loc Cert.CountsIdeal.nD Cert.CountsIdeal.τ Cert.CountsIdeal.sig) → Buf (Elt Ideal) ℓ) (g : Dev Cert.CountsIdeal.nD → PrngReg)
    (m' : (ℓ : Loc Cert.CountsReferenceIdeal.nD Cert.CountsReferenceIdeal.τ Cert.CountsReferenceIdeal.sig) → Buf (Elt Ideal) ℓ) (g' : Dev Cert.CountsReferenceIdeal.nD → PrngReg), Pre_CountsIdeal m →
    (∀ c : Dev Cert.CountsIdeal.nD,
      m ((c.tc : Thread Cert.CountsIdeal.nD Cert.CountsIdeal.τ).loc Cert.CountsIdeal.main_arg0) = Layout.block ⟨2, ![1, 128]⟩ ⟨2, ![8, 128]⟩ 0 8 c (m' (((0 : Dev Cert.CountsReferenceIdeal.nD).tc : Thread Cert.CountsReferenceIdeal.nD Cert.CountsReferenceIdeal.τ).loc Cert.CountsReferenceIdeal.main_arg0))) →
    ∃ (v0 : Buf (Elt Ideal) (((0 : Dev Cert.CountsReferenceIdeal.nD).tc : Thread Cert.CountsReferenceIdeal.nD Cert.CountsReferenceIdeal.τ).loc Cert.CountsReferenceIdeal.main_arg0)),
      θ_run (Cert.CountsIdeal.defs (F := Ideal)) (onTc (τ := Cert.CountsIdeal.τ) (Cert.CountsIdeal.main (F := Ideal))) ⟨m, fun _ => 0, g⟩ (fun r => ∀ c : Dev Cert.CountsIdeal.nD,
          r.2.mem ((c.tc : Thread Cert.CountsIdeal.nD Cert.CountsIdeal.τ).loc Cert.CountsIdeal.main_v1) = v0
          ∧ r.2.mem ((c.tc : Thread Cert.CountsIdeal.nD Cert.CountsIdeal.τ).loc Cert.CountsIdeal.main_arg0) = m ((c.tc : Thread Cert.CountsIdeal.nD Cert.CountsIdeal.τ).loc Cert.CountsIdeal.main_arg0))
      ∧ θ_run (Cert.CountsReferenceIdeal.defs (F := Ideal)) (onTc (τ := Cert.CountsReferenceIdeal.τ) (Cert.CountsReferenceIdeal.main (F := Ideal))) ⟨m', fun _ => 0, g'⟩ (fun r =>
          r.2.mem (((0 : Dev Cert.CountsReferenceIdeal.nD).tc : Thread Cert.CountsReferenceIdeal.nD Cert.CountsReferenceIdeal.τ).loc Cert.CountsReferenceIdeal.main_arg0) = v0
          ∧ r.2.mem (((0 : Dev Cert.CountsReferenceIdeal.nD).tc : Thread Cert.CountsReferenceIdeal.nD Cert.CountsReferenceIdeal.τ).loc Cert.CountsReferenceIdeal.main_arg0) = m' (((0 : Dev Cert.CountsReferenceIdeal.nD).tc : Thread Cert.CountsReferenceIdeal.nD Cert.CountsReferenceIdeal.τ).loc Cert.CountsReferenceIdeal.main_arg0))

def Claim : Prop :=
  ∃ (hKernel : Cert.Kernel.Facts) (hKernelIdeal : Cert.KernelIdeal.Facts) (hReferenceIdeal : Cert.ReferenceIdeal.Facts) (hCounts : Cert.Counts.Facts) (hCountsIdeal : Cert.CountsIdeal.Facts) (hCountsReferenceIdeal : Cert.CountsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Counts (hCounts := hCounts)
    ∧ quiescent_CountsIdeal (hCountsIdeal := hCountsIdeal)
    ∧ quiescent_CountsReferenceIdeal (hCountsReferenceIdeal := hCountsReferenceIdeal)
    ∧ preserves_Kernel_KernelIdeal
    ∧ algebraic_KernelIdeal_ReferenceIdeal (hKernelIdeal := hKernelIdeal) (hReferenceIdeal := hReferenceIdeal)
    ∧ preserves_Counts_CountsIdeal
    ∧ algebraic_CountsIdeal_CountsReferenceIdeal (hCountsIdeal := hCountsIdeal) (hCountsReferenceIdeal := hCountsReferenceIdeal)
-- ==== Kernel.lean ====
abbrev S2048x512 : Shape := ⟨2, ![2048, 512]⟩
abbrev S8x2048x128 : Shape := ⟨3, ![8, 2048, 128]⟩
abbrev S4x512x1024 : Shape := ⟨3, ![4, 512, 1024]⟩
abbrev S2048x1024 : Shape := ⟨2, ![2048, 1024]⟩
abbrev S8x4x512x384 : Shape := ⟨4, ![8, 4, 512, 384]⟩
abbrev S8x4x512x256 : Shape := ⟨4, ![8, 4, 512, 256]⟩
abbrev S9 : Shape := ⟨1, ![9]⟩
abbrev S_ : Shape := ⟨0, ![]⟩
abbrev S4x512x384 : Shape := ⟨3, ![4, 512, 384]⟩
abbrev S1x4x512x384 : Shape := ⟨4, ![1, 4, 512, 384]⟩
abbrev S4x512x256 : Shape := ⟨3, ![4, 512, 256]⟩
abbrev S1x4x512x256 : Shape := ⟨4, ![1, 4, 512, 256]⟩
abbrev S1 : Shape := ⟨1, ![1]⟩
abbrev S1x2048x128 : Shape := ⟨3, ![1, 2048, 128]⟩
abbrev S2048x128 : Shape := ⟨2, ![2048, 128]⟩
abbrev S2048x1 : Shape := ⟨2, ![2048, 1]⟩
abbrev S1x512x1024 : Shape := ⟨3, ![1, 512, 1024]⟩
abbrev S512x1024 : Shape := ⟨2, ![512, 1024]⟩
abbrev S2x4x512x256 : Shape := ⟨4, ![2, 4, 512, 256]⟩
abbrev S2x4x512x384 : Shape := ⟨4, ![2, 4, 512, 384]⟩
abbrev S2048x256 : Shape := ⟨2, ![2048, 256]⟩
abbrev S1x1x512x256 : Shape := ⟨4, ![1, 1, 512, 256]⟩
abbrev S512x256 : Shape := ⟨2, ![512, 256]⟩
abbrev S2048x384 : Shape := ⟨2, ![2048, 384]⟩
abbrev S1x1x512x384 : Shape := ⟨4, ![1, 1, 512, 384]⟩
abbrev S512x384 : Shape := ⟨2, ![512, 384]⟩
abbrev S4x4x512x256 : Shape := ⟨4, ![4, 4, 512, 256]⟩
abbrev S4x4x512x384 : Shape := ⟨4, ![4, 4, 512, 384]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S8x2048x128, .bf16⟩
  | .hbm, ⟨2, _⟩ => ⟨S4x512x1024, .bf16⟩
  | .hbm, ⟨3, _⟩ => ⟨S2048x1024, .bf16⟩
  | .local _ .vmem, ⟨0, _⟩ => ⟨S2048x512, .bf16⟩
  | .local _ .vmem, ⟨1, _⟩ => ⟨S8x2048x128, .bf16⟩
  | .local _ .vmem, ⟨2, _⟩ => ⟨S4x512x1024, .bf16⟩
  | .local _ .vmem, ⟨3, _⟩ => ⟨S2048x1024, .bf16⟩
  | .local _ .vmem, ⟨4, _⟩ => ⟨S8x4x512x384, .bf16⟩
  | .local _ .vmem, ⟨5, _⟩ => ⟨S8x4x512x384, .bf16⟩
  | .local _ .vmem, ⟨6, _⟩ => ⟨S8x4x512x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier1 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v28 : BitVec 32 := Scalar.xori v2 c1_i32_28
  let c1_i32_33 : BitVec 32 := 1#32
  let v31 : BitVec 32 := Scalar.muli v28 c1_i32_33
  let v32 : BitVec 32 := Scalar.addi c0_i32_34 v31
  v32.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v29 : BitVec 32 := Scalar.xori v2 c3_i32_29
  let c1_i32_45 : BitVec 32 := 1#32
  let v39 : BitVec 32 := Scalar.muli v29 c1_i32_45
  let v40 : BitVec 32 := Scalar.addi c0_i32_46 v39
  v40.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v30 : BitVec 32 := Scalar.xori v2 c4_i32_30
  let c1_i32_56 : BitVec 32 := 1#32
  let v47 : BitVec 32 := Scalar.muli v30 c1_i32_56
  let v48 : BitVec 32 := Scalar.addi c0_i32_57 v47
  v48.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : Index := Scalar.indexCast v2
  let c0_68 : Index := 0#32
  let c0_69 : Index := 0#32
  ![v57.toNat, 0, 0]
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_120 : BitVec 32 := 1#32
  let v119 : BitVec 32 := Scalar.xori v2 c1_i32_120
  let c1_i32_122 : BitVec 32 := 1#32
  let v120 : BitVec 32 := Scalar.muli v119 c1_i32_122
  let v121 : BitVec 32 := Scalar.addi c0_i32_123 v120
  v121.toNat
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_144 : BitVec 32 := 3#32
  let v135 : BitVec 32 := Scalar.xori v2 c3_i32_144
  let c1_i32_147 : BitVec 32 := 1#32
  let v136 : BitVec 32 := Scalar.muli v135 c1_i32_147
  let v137 : BitVec 32 := Scalar.addi c0_i32_148 v136
  v137.toNat
def k0_dev9 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_170 : BitVec 32 := 4#32
  let v151 : BitVec 32 := Scalar.xori v2 c4_i32_170
  let c1_i32_173 : BitVec 32 := 1#32
  let v152 : BitVec 32 := Scalar.muli v151 c1_i32_173
  let v153 : BitVec 32 := Scalar.addi c0_i32_174 v152
  v153.toNat
def k0_off2 (d0 : Dev nD) (c4_i32_185 : BitVec 32) (c1_i32_188 : BitVec 32) (c3_i32_191 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_183 : BitVec 32 := 1#32
  let c1_i32_184 : BitVec 32 := 1#32
  let v160 : BitVec 32 := Scalar.andi c1_i32_183 c1_i32_184
  let v161 : BitVec 32 := Scalar.muli c4_i32_185 v160
  let c1_i32_186 : BitVec 32 := 1#32
  let v162 : BitVec 32 := Scalar.shrsi c1_i32_183 c1_i32_186
  let c1_i32_187 : BitVec 32 := 1#32
  let v163 : BitVec 32 := Scalar.andi v162 c1_i32_187
  let v164 : BitVec 32 := Scalar.muli c1_i32_188 v163
  let v165 : BitVec 32 := Scalar.xori v161 v164
  let c2_i32_189 : BitVec 32 := 2#32
  let v166 : BitVec 32 := Scalar.shrsi c1_i32_183 c2_i32_189
  let c1_i32_190 : BitVec 32 := 1#32
  let v167 : BitVec 32 := Scalar.andi v166 c1_i32_190
  let v168 : BitVec 32 := Scalar.muli c3_i32_191 v167
  let v169 : BitVec 32 := Scalar.xori v165 v168
  let v170 : BitVec 32 := Scalar.xori v2 v169
  let v171 : Index := Scalar.indexCast v170
  let c0_192 : Index := 0#32
  let c0_193 : Index := 0#32
  ![v171.toNat, 0, 0]
def k0_off2_at (r : Fin 3) : BitVec 32 × BitVec 32 × BitVec 32 :=
  if r.val < 1 then
    (4#32, 1#32, 3#32)
  else
    if r.val < 2 then
      (1#32, 3#32, 4#32)
    else
      (3#32, 4#32, 1#32)
def k0_dev10 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v377 : BitVec 32 := Scalar.xori v2 c3_i32_352
  let c1_i32_355 : BitVec 32 := 1#32
  let v378 : BitVec 32 := Scalar.muli v377 c1_i32_355
  let v379 : BitVec 32 := Scalar.addi c0_i32_356 v378
  v379.toNat
def k0_dev11 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_378 : BitVec 32 := 4#32
  let v393 : BitVec 32 := Scalar.xori v2 c4_i32_378
  let c1_i32_381 : BitVec 32 := 1#32
  let v394 : BitVec 32 := Scalar.muli v393 c1_i32_381
  let v395 : BitVec 32 := Scalar.addi c0_i32_382 v394
  v395.toNat
def k0_dev12 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_404 : BitVec 32 := 1#32
  let v409 : BitVec 32 := Scalar.xori v2 c1_i32_404
  let c1_i32_406 : BitVec 32 := 1#32
  let v410 : BitVec 32 := Scalar.muli v409 c1_i32_406
  let v411 : BitVec 32 := Scalar.addi c0_i32_407 v410
  v411.toNat
@[reducible] def k0_t1_loop : Scf.Loop 32 :=
  let c2_i32_416 : BitVec 32 := 2#32
  let c2_i32_417 : BitVec 32 := 2#32
  let v418 : BitVec 32 := Scalar.addi c2_i32_416 c2_i32_417
  let c1_i32_418 : BitVec 32 := 1#32
  ⟨c2_i32_416, v418, c1_i32_418⟩
def k0_off3 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_579 : BitVec 32 := 4#32
  let c2_i32_416 : BitVec 32 := 2#32
  let c1_i32_418 : BitVec 32 := 1#32
  let arg9 : BitVec 32 := Scf.iv c2_i32_416 c1_i32_418 k0_t1
  let c1_i32_578 : BitVec 32 := 1#32
  let v481 : BitVec 32 := Scalar.andi arg9 c1_i32_578
  let v482 : BitVec 32 := Scalar.muli c4_i32_579 v481
  let c1_i32_582 : BitVec 32 := 1#32
  let c1_i32_580 : BitVec 32 := 1#32
  let v483 : BitVec 32 := Scalar.shrsi arg9 c1_i32_580
  let c1_i32_581 : BitVec 32 := 1#32
  let v484 : BitVec 32 := Scalar.andi v483 c1_i32_581
  let v485 : BitVec 32 := Scalar.muli c1_i32_582 v484
  let v486 : BitVec 32 := Scalar.xori v482 v485
  let c3_i32_585 : BitVec 32 := 3#32
  let c2_i32_583 : BitVec 32 := 2#32
  let v487 : BitVec 32 := Scalar.shrsi arg9 c2_i32_583
  let c1_i32_584 : BitVec 32 := 1#32
  let v488 : BitVec 32 := Scalar.andi v487 c1_i32_584
  let v489 : BitVec 32 := Scalar.muli c3_i32_585 v488
  let v490 : BitVec 32 := Scalar.xori v486 v489
  let v491 : BitVec 32 := Scalar.xori v2 v490
  let v492 : Index := Scalar.indexCast v491
  let c0_586 : Index := 0#32
  let c0_587 : Index := 0#32
  ![v492.toNat, 0, 0]
def k0_off4 (k0_t1 : Fin k0_t1_loop.trips) : Fin 4 → Nat :=
  let c2_i32_416 : BitVec 32 := 2#32
  let c1_i32_418 : BitVec 32 := 1#32
  let arg9 : BitVec 32 := Scf.iv c2_i32_416 c1_i32_418 k0_t1
  let v502 : Index := Scalar.indexCast arg9
  let c0_592 : Index := 0#32
  let c0_593 : Index := 0#32
  let c0_594 : Index := 0#32
  ![v502.toNat, 0, 0, 0]
def k0_off5 (k0_t1 : Fin k0_t1_loop.trips) : Fin 4 → Nat :=
  let c2_i32_416 : BitVec 32 := 2#32
  let c1_i32_418 : BitVec 32 := 1#32
  let arg9 : BitVec 32 := Scf.iv c2_i32_416 c1_i32_418 k0_t1
  let v516 : Index := Scalar.indexCast arg9
  let c1_602 : Index := 1#32
  let c0_603 : Index := 0#32
  let c0_604 : Index := 0#32
  ![v516.toNat, 1, 0, 0]
def k0_off6 (k0_t1 : Fin k0_t1_loop.trips) : Fin 4 → Nat :=
  let c2_i32_416 : BitVec 32 := 2#32
  let c1_i32_418 : BitVec 32 := 1#32
  let arg9 : BitVec 32 := Scf.iv c2_i32_416 c1_i32_418 k0_t1
  let v530 : Index := Scalar.indexCast arg9
  let c2_612 : Index := 2#32
  let c0_613 : Index := 0#32
  let c0_614 : Index := 0#32
  ![v530.toNat, 2, 0, 0]
def k0_off7 (k0_t1 : Fin k0_t1_loop.trips) : Fin 4 → Nat :=
  let c2_i32_416 : BitVec 32 := 2#32
  let c1_i32_418 : BitVec 32 := 1#32
  let arg9 : BitVec 32 := Scf.iv c2_i32_416 c1_i32_418 k0_t1
  let v544 : Index := Scalar.indexCast arg9
  let c3_622 : Index := 3#32
  let c0_623 : Index := 0#32
  let c0_624 : Index := 0#32
  ![v544.toNat, 3, 0, 0]
@[reducible] def k0_t2_loop : Scf.Loop 32 :=
  let c2_i32_420 : BitVec 32 := 2#32
  let c2_i32_421 : BitVec 32 := 2#32
  let v419 : BitVec 32 := Scalar.addi c2_i32_420 c2_i32_421
  let c1_i32_422 : BitVec 32 := 1#32
  ⟨c2_i32_420, v419, c1_i32_422⟩
def k0_off8 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_579 : BitVec 32 := 1#32
  let c2_i32_420 : BitVec 32 := 2#32
  let c1_i32_422 : BitVec 32 := 1#32
  let arg9 : BitVec 32 := Scf.iv c2_i32_420 c1_i32_422 k0_t2
  let c1_i32_578 : BitVec 32 := 1#32
  let v481 : BitVec 32 := Scalar.andi arg9 c1_i32_578
  let v482 : BitVec 32 := Scalar.muli c1_i32_579 v481
  let c3_i32_582 : BitVec 32 := 3#32
  let c1_i32_580 : BitVec 32 := 1#32
  let v483 : BitVec 32 := Scalar.shrsi arg9 c1_i32_580
  let c1_i32_581 : BitVec 32 := 1#32
  let v484 : BitVec 32 := Scalar.andi v483 c1_i32_581
  let v485 : BitVec 32 := Scalar.muli c3_i32_582 v484
  let v486 : BitVec 32 := Scalar.xori v482 v485
  let c4_i32_585 : BitVec 32 := 4#32
  let c2_i32_583 : BitVec 32 := 2#32
  let v487 : BitVec 32 := Scalar.shrsi arg9 c2_i32_583
  let c1_i32_584 : BitVec 32 := 1#32
  let v488 : BitVec 32 := Scalar.andi v487 c1_i32_584
  let v489 : BitVec 32 := Scalar.muli c4_i32_585 v488
  let v490 : BitVec 32 := Scalar.xori v486 v489
  let v491 : BitVec 32 := Scalar.xori v2 v490
  let v492 : Index := Scalar.indexCast v491
  let c0_586 : Index := 0#32
  let c0_587 : Index := 0#32
  ![v492.toNat, 0, 0]
def k0_off9 (k0_t2 : Fin k0_t2_loop.trips) : Fin 4 → Nat :=
  let c2_i32_420 : BitVec 32 := 2#32
  let c1_i32_422 : BitVec 32 := 1#32
  let arg9 : BitVec 32 := Scf.iv c2_i32_420 c1_i32_422 k0_t2
  let v502 : Index := Scalar.indexCast arg9
  let c0_592 : Index := 0#32
  let c0_593 : Index := 0#32
  let c0_594 : Index := 0#32
  ![v502.toNat, 0, 0, 0]
def k0_off10 (k0_t2 : Fin k0_t2_loop.trips) : Fin 4 → Nat :=
  let c2_i32_420 : BitVec 32 := 2#32
  let c1_i32_422 : BitVec 32 := 1#32
  let arg9 : BitVec 32 := Scf.iv c2_i32_420 c1_i32_422 k0_t2
  let v516 : Index := Scalar.indexCast arg9
  let c1_602 : Index := 1#32
  let c0_603 : Index := 0#32
  let c0_604 : Index := 0#32
  ![v516.toNat, 1, 0, 0]
def k0_off11 (k0_t2 : Fin k0_t2_loop.trips) : Fin 4 → Nat :=
  let c2_i32_420 : BitVec 32 := 2#32
  let c1_i32_422 : BitVec 32 := 1#32
  let arg9 : BitVec 32 := Scf.iv c2_i32_420 c1_i32_422 k0_t2
  let v530 : Index := Scalar.indexCast arg9
  let c2_612 : Index := 2#32
  let c0_613 : Index := 0#32
  let c0_614 : Index := 0#32
  ![v530.toNat, 2, 0, 0]
def k0_off12 (k0_t2 : Fin k0_t2_loop.trips) : Fin 4 → Nat :=
  let c2_i32_420 : BitVec 32 := 2#32
  let c1_i32_422 : BitVec 32 := 1#32
  let arg9 : BitVec 32 := Scf.iv c2_i32_420 c1_i32_422 k0_t2
  let v544 : Index := Scalar.indexCast arg9
  let c3_622 : Index := 3#32
  let c0_623 : Index := 0#32
  let c0_624 : Index := 0#32
  ![v544.toNat, 3, 0, 0]
@[reducible] def k0_t3_loop : Scf.Loop 32 :=
  let c2_i32_424 : BitVec 32 := 2#32
  let c2_i32_425 : BitVec 32 := 2#32
  let v420 : BitVec 32 := Scalar.addi c2_i32_424 c2_i32_425
  let c1_i32_426 : BitVec 32 := 1#32
  ⟨c2_i32_424, v420, c1_i32_426⟩
def k0_off13 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_579 : BitVec 32 := 3#32
  let c2_i32_424 : BitVec 32 := 2#32
  let c1_i32_426 : BitVec 32 := 1#32
  let arg9 : BitVec 32 := Scf.iv c2_i32_424 c1_i32_426 k0_t3
  let c1_i32_578 : BitVec 32 := 1#32
  let v481 : BitVec 32 := Scalar.andi arg9 c1_i32_578
  let v482 : BitVec 32 := Scalar.muli c3_i32_579 v481
  let c4_i32_582 : BitVec 32 := 4#32
  let c1_i32_580 : BitVec 32 := 1#32
  let v483 : BitVec 32 := Scalar.shrsi arg9 c1_i32_580
  let c1_i32_581 : BitVec 32 := 1#32
  let v484 : BitVec 32 := Scalar.andi v483 c1_i32_581
  let v485 : BitVec 32 := Scalar.muli c4_i32_582 v484
  let v486 : BitVec 32 := Scalar.xori v482 v485
  let c1_i32_585 : BitVec 32 := 1#32
  let c2_i32_583 : BitVec 32 := 2#32
  let v487 : BitVec 32 := Scalar.shrsi arg9 c2_i32_583
  let c1_i32_584 : BitVec 32 := 1#32
  let v488 : BitVec 32 := Scalar.andi v487 c1_i32_584
  let v489 : BitVec 32 := Scalar.muli c1_i32_585 v488
  let v490 : BitVec 32 := Scalar.xori v486 v489
  let v491 : BitVec 32 := Scalar.xori v2 v490
  let v492 : Index := Scalar.indexCast v491
  let c0_586 : Index := 0#32
  let c0_587 : Index := 0#32
  ![v492.toNat, 0, 0]
def k0_off14 (k0_t3 : Fin k0_t3_loop.trips) : Fin 4 → Nat :=
  let c2_i32_424 : BitVec 32 := 2#32
  let c1_i32_426 : BitVec 32 := 1#32
  let arg9 : BitVec 32 := Scf.iv c2_i32_424 c1_i32_426 k0_t3
  let v502 : Index := Scalar.indexCast arg9
  let c0_592 : Index := 0#32
  let c0_593 : Index := 0#32
  let c0_594 : Index := 0#32
  ![v502.toNat, 0, 0, 0]
def k0_off15 (k0_t3 : Fin k0_t3_loop.trips) : Fin 4 → Nat :=
  let c2_i32_424 : BitVec 32 := 2#32
  let c1_i32_426 : BitVec 32 := 1#32
  let arg9 : BitVec 32 := Scf.iv c2_i32_424 c1_i32_426 k0_t3
  let v516 : Index := Scalar.indexCast arg9
  let c1_602 : Index := 1#32
  let c0_603 : Index := 0#32
  let c0_604 : Index := 0#32
  ![v516.toNat, 1, 0, 0]
def k0_off16 (k0_t3 : Fin k0_t3_loop.trips) : Fin 4 → Nat :=
  let c2_i32_424 : BitVec 32 := 2#32
  let c1_i32_426 : BitVec 32 := 1#32
  let arg9 : BitVec 32 := Scf.iv c2_i32_424 c1_i32_426 k0_t3
  let v530 : Index := Scalar.indexCast arg9
  let c2_612 : Index := 2#32
  let c0_613 : Index := 0#32
  let c0_614 : Index := 0#32
  ![v530.toNat, 2, 0, 0]
def k0_off17 (k0_t3 : Fin k0_t3_loop.trips) : Fin 4 → Nat :=
  let c2_i32_424 : BitVec 32 := 2#32
  let c1_i32_426 : BitVec 32 := 1#32
  let arg9 : BitVec 32 := Scf.iv c2_i32_424 c1_i32_426 k0_t3
  let v544 : Index := Scalar.indexCast arg9
  let c3_622 : Index := 3#32
  let c0_623 : Index := 0#32
  let c0_624 : Index := 0#32
  ![v544.toNat, 3, 0, 0]
@[reducible] def k0_t4_loop : Scf.Loop 32 :=
  let c4_i32_441 : BitVec 32 := 4#32
  let c4_i32_442 : BitVec 32 := 4#32
  let v428 : BitVec 32 := Scalar.addi c4_i32_441 c4_i32_442
  let c1_i32_443 : BitVec 32 := 1#32
  ⟨c4_i32_441, v428, c1_i32_443⟩
def k0_off18 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_579 : BitVec 32 := 4#32
  let c4_i32_441 : BitVec 32 := 4#32
  let c1_i32_443 : BitVec 32 := 1#32
  let arg9 : BitVec 32 := Scf.iv c4_i32_441 c1_i32_443 k0_t4
  let c1_i32_578 : BitVec 32 := 1#32
  let v481 : BitVec 32 := Scalar.andi arg9 c1_i32_578
  let v482 : BitVec 32 := Scalar.muli c4_i32_579 v481
  let c1_i32_582 : BitVec 32 := 1#32
  let c1_i32_580 : BitVec 32 := 1#32
  let v483 : BitVec 32 := Scalar.shrsi arg9 c1_i32_580
  let c1_i32_581 : BitVec 32 := 1#32
  let v484 : BitVec 32 := Scalar.andi v483 c1_i32_581
  let v485 : BitVec 32 := Scalar.muli c1_i32_582 v484
  let v486 : BitVec 32 := Scalar.xori v482 v485
  let c3_i32_585 : BitVec 32 := 3#32
  let c2_i32_583 : BitVec 32 := 2#32
  let v487 : BitVec 32 := Scalar.shrsi arg9 c2_i32_583
  let c1_i32_584 : BitVec 32 := 1#32
  let v488 : BitVec 32 := Scalar.andi v487 c1_i32_584
  let v489 : BitVec 32 := Scalar.muli c3_i32_585 v488
  let v490 : BitVec 32 := Scalar.xori v486 v489
  let v491 : BitVec 32 := Scalar.xori v2 v490
  let v492 : Index := Scalar.indexCast v491
  let c0_586 : Index := 0#32
  let c0_587 : Index := 0#32
  ![v492.toNat, 0, 0]
def k0_off19 (k0_t4 : Fin k0_t4_loop.trips) : Fin 4 → Nat :=
  let c4_i32_441 : BitVec 32 := 4#32
  let c1_i32_443 : BitVec 32 := 1#32
  let arg9 : BitVec 32 := Scf.iv c4_i32_441 c1_i32_443 k0_t4
  let v502 : Index := Scalar.indexCast arg9
  let c0_592 : Index := 0#32
  let c0_593 : Index := 0#32
  let c0_594 : Index := 0#32
  ![v502.toNat, 0, 0, 0]
def k0_off20 (k0_t4 : Fin k0_t4_loop.trips) : Fin 4 → Nat :=
  let c4_i32_441 : BitVec 32 := 4#32
  let c1_i32_443 : BitVec 32 := 1#32
  let arg9 : BitVec 32 := Scf.iv c4_i32_441 c1_i32_443 k0_t4
  let v516 : Index := Scalar.indexCast arg9
  let c1_602 : Index := 1#32
  let c0_603 : Index := 0#32
  let c0_604 : Index := 0#32
  ![v516.toNat, 1, 0, 0]
def k0_off21 (k0_t4 : Fin k0_t4_loop.trips) : Fin 4 → Nat :=
  let c4_i32_441 : BitVec 32 := 4#32
  let c1_i32_443 : BitVec 32 := 1#32
  let arg9 : BitVec 32 := Scf.iv c4_i32_441 c1_i32_443 k0_t4
  let v530 : Index := Scalar.indexCast arg9
  let c2_612 : Index := 2#32
  let c0_613 : Index := 0#32
  let c0_614 : Index := 0#32
  ![v530.toNat, 2, 0, 0]
def k0_off22 (k0_t4 : Fin k0_t4_loop.trips) : Fin 4 → Nat :=
  let c4_i32_441 : BitVec 32 := 4#32
  let c1_i32_443 : BitVec 32 := 1#32
  let arg9 : BitVec 32 := Scf.iv c4_i32_441 c1_i32_443 k0_t4
  let v544 : Index := Scalar.indexCast arg9
  let c3_622 : Index := 3#32
  let c0_623 : Index := 0#32
  let c0_624 : Index := 0#32
  ![v544.toNat, 3, 0, 0]
@[reducible] def k0_t5_loop : Scf.Loop 32 :=
  let c4_i32_458 : BitVec 32 := 4#32
  let c4_i32_459 : BitVec 32 := 4#32
  let v436 : BitVec 32 := Scalar.addi c4_i32_458 c4_i32_459
  let c1_i32_460 : BitVec 32 := 1#32
  ⟨c4_i32_458, v436, c1_i32_460⟩
def k0_off23 (d0 : Dev nD) (k0_t5 : Fin k0_t5_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_579 : BitVec 32 := 1#32
  let c4_i32_458 : BitVec 32 := 4#32
  let c1_i32_460 : BitVec 32 := 1#32
  let arg9 : BitVec 32 := Scf.iv c4_i32_458 c1_i32_460 k0_t5
  let c1_i32_578 : BitVec 32 := 1#32
  let v481 : BitVec 32 := Scalar.andi arg9 c1_i32_578
  let v482 : BitVec 32 := Scalar.muli c1_i32_579 v481
  let c3_i32_582 : BitVec 32 := 3#32
  let c1_i32_580 : BitVec 32 := 1#32
  let v483 : BitVec 32 := Scalar.shrsi arg9 c1_i32_580
  let c1_i32_581 : BitVec 32 := 1#32
  let v484 : BitVec 32 := Scalar.andi v483 c1_i32_581
  let v485 : BitVec 32 := Scalar.muli c3_i32_582 v484
  let v486 : BitVec 32 := Scalar.xori v482 v485
  let c4_i32_585 : BitVec 32 := 4#32
  let c2_i32_583 : BitVec 32 := 2#32
  let v487 : BitVec 32 := Scalar.shrsi arg9 c2_i32_583
  let c1_i32_584 : BitVec 32 := 1#32
  let v488 : BitVec 32 := Scalar.andi v487 c1_i32_584
  let v489 : BitVec 32 := Scalar.muli c4_i32_585 v488
  let v490 : BitVec 32 := Scalar.xori v486 v489
  let v491 : BitVec 32 := Scalar.xori v2 v490
  let v492 : Index := Scalar.indexCast v491
  let c0_586 : Index := 0#32
  let c0_587 : Index := 0#32
  ![v492.toNat, 0, 0]
def k0_off24 (k0_t5 : Fin k0_t5_loop.trips) : Fin 4 → Nat :=
  let c4_i32_458 : BitVec 32 := 4#32
  let c1_i32_460 : BitVec 32 := 1#32
  let arg9 : BitVec 32 := Scf.iv c4_i32_458 c1_i32_460 k0_t5
  let v502 : Index := Scalar.indexCast arg9
  let c0_592 : Index := 0#32
  let c0_593 : Index := 0#32
  let c0_594 : Index := 0#32
  ![v502.toNat, 0, 0, 0]
def k0_off25 (k0_t5 : Fin k0_t5_loop.trips) : Fin 4 → Nat :=
  let c4_i32_458 : BitVec 32 := 4#32
  let c1_i32_460 : BitVec 32 := 1#32
  let arg9 : BitVec 32 := Scf.iv c4_i32_458 c1_i32_460 k0_t5
  let v516 : Index := Scalar.indexCast arg9
  let c1_602 : Index := 1#32
  let c0_603 : Index := 0#32
  let c0_604 : Index := 0#32
  ![v516.toNat, 1, 0, 0]
def k0_off26 (k0_t5 : Fin k0_t5_loop.trips) : Fin 4 → Nat :=
  let c4_i32_458 : BitVec 32 := 4#32
  let c1_i32_460 : BitVec 32 := 1#32
  let arg9 : BitVec 32 := Scf.iv c4_i32_458 c1_i32_460 k0_t5
  let v530 : Index := Scalar.indexCast arg9
  let c2_612 : Index := 2#32
  let c0_613 : Index := 0#32
  let c0_614 : Index := 0#32
  ![v530.toNat, 2, 0, 0]
def k0_off27 (k0_t5 : Fin k0_t5_loop.trips) : Fin 4 → Nat :=
  let c4_i32_458 : BitVec 32 := 4#32
  let c1_i32_460 : BitVec 32 := 1#32
  let arg9 : BitVec 32 := Scf.iv c4_i32_458 c1_i32_460 k0_t5
  let v544 : Index := Scalar.indexCast arg9
  let c3_622 : Index := 3#32
  let c0_623 : Index := 0#32
  let c0_624 : Index := 0#32
  ![v544.toNat, 3, 0, 0]
@[reducible] def k0_t6_loop : Scf.Loop 32 :=
  let c4_i32_475 : BitVec 32 := 4#32
  let c4_i32_476 : BitVec 32 := 4#32
  let v444 : BitVec 32 := Scalar.addi c4_i32_475 c4_i32_476
  let c1_i32_477 : BitVec 32 := 1#32
  ⟨c4_i32_475, v444, c1_i32_477⟩
def k0_off28 (d0 : Dev nD) (k0_t6 : Fin k0_t6_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_579 : BitVec 32 := 3#32
  let c4_i32_475 : BitVec 32 := 4#32
  let c1_i32_477 : BitVec 32 := 1#32
  let arg9 : BitVec 32 := Scf.iv c4_i32_475 c1_i32_477 k0_t6
  let c1_i32_578 : BitVec 32 := 1#32
  let v481 : BitVec 32 := Scalar.andi arg9 c1_i32_578
  let v482 : BitVec 32 := Scalar.muli c3_i32_579 v481
  let c4_i32_582 : BitVec 32 := 4#32
  let c1_i32_580 : BitVec 32 := 1#32
  let v483 : BitVec 32 := Scalar.shrsi arg9 c1_i32_580
  let c1_i32_581 : BitVec 32 := 1#32
  let v484 : BitVec 32 := Scalar.andi v483 c1_i32_581
  let v485 : BitVec 32 := Scalar.muli c4_i32_582 v484
  let v486 : BitVec 32 := Scalar.xori v482 v485
  let c1_i32_585 : BitVec 32 := 1#32
  let c2_i32_583 : BitVec 32 := 2#32
  let v487 : BitVec 32 := Scalar.shrsi arg9 c2_i32_583
  let c1_i32_584 : BitVec 32 := 1#32
  let v488 : BitVec 32 := Scalar.andi v487 c1_i32_584
  let v489 : BitVec 32 := Scalar.muli c1_i32_585 v488
  let v490 : BitVec 32 := Scalar.xori v486 v489
  let v491 : BitVec 32 := Scalar.xori v2 v490
  let v492 : Index := Scalar.indexCast v491
  let c0_586 : Index := 0#32
  let c0_587 : Index := 0#32
  ![v492.toNat, 0, 0]
def k0_off29 (k0_t6 : Fin k0_t6_loop.trips) : Fin 4 → Nat :=
  let c4_i32_475 : BitVec 32 := 4#32
  let c1_i32_477 : BitVec 32 := 1#32
  let arg9 : BitVec 32 := Scf.iv c4_i32_475 c1_i32_477 k0_t6
  let v502 : Index := Scalar.indexCast arg9
  let c0_592 : Index := 0#32
  let c0_593 : Index := 0#32
  let c0_594 : Index := 0#32
  ![v502.toNat, 0, 0, 0]
def k0_off30 (k0_t6 : Fin k0_t6_loop.trips) : Fin 4 → Nat :=
  let c4_i32_475 : BitVec 32 := 4#32
  let c1_i32_477 : BitVec 32 := 1#32
  let arg9 : BitVec 32 := Scf.iv c4_i32_475 c1_i32_477 k0_t6
  let v516 : Index := Scalar.indexCast arg9
  let c1_602 : Index := 1#32
  let c0_603 : Index := 0#32
  let c0_604 : Index := 0#32
  ![v516.toNat, 1, 0, 0]
def k0_off31 (k0_t6 : Fin k0_t6_loop.trips) : Fin 4 → Nat :=
  let c4_i32_475 : BitVec 32 := 4#32
  let c1_i32_477 : BitVec 32 := 1#32
  let arg9 : BitVec 32 := Scf.iv c4_i32_475 c1_i32_477 k0_t6
  let v530 : Index := Scalar.indexCast arg9
  let c2_612 : Index := 2#32
  let c0_613 : Index := 0#32
  let c0_614 : Index := 0#32
  ![v530.toNat, 2, 0, 0]
def k0_off32 (k0_t6 : Fin k0_t6_loop.trips) : Fin 4 → Nat :=
  let c4_i32_475 : BitVec 32 := 4#32
  let c1_i32_477 : BitVec 32 := 1#32
  let arg9 : BitVec 32 := Scf.iv c4_i32_475 c1_i32_477 k0_t6
  let v544 : Index := Scalar.indexCast arg9
  let c3_622 : Index := 3#32
  let c0_623 : Index := 0#32
  let c0_624 : Index := 0#32
  ![v544.toNat, 3, 0, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x512 : Shape := ⟨2, ![16384, 512]⟩
abbrev S8x16384x128 : Shape := ⟨3, ![8, 16384, 128]⟩
abbrev S32x512x1024 : Shape := ⟨3, ![32, 512, 1024]⟩
abbrev S8x16384x4 : Shape := ⟨3, ![8, 16384, 4]⟩
abbrev S8x4x16384 : Shape := ⟨3, ![8, 4, 16384]⟩
abbrev S32x16384 : Shape := ⟨2, ![32, 16384]⟩
abbrev S1x16384x512 : Shape := ⟨3, ![1, 16384, 512]⟩
abbrev S32x16384x1 : Shape := ⟨3, ![32, 16384, 1]⟩
abbrev S32x16384x512 : Shape := ⟨3, ![32, 16384, 512]⟩
abbrev S32x16384x1024 : Shape := ⟨3, ![32, 16384, 1024]⟩
abbrev S_ : Shape := ⟨0, ![]⟩
abbrev S16384x1024 : Shape := ⟨2, ![16384, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S8x16384x128, .bf16⟩
  | .hbm, ⟨2, _⟩ => ⟨S32x512x1024, .bf16⟩
  | .hbm, ⟨3, _⟩ => ⟨S16384x512, .f32⟩
  | .hbm, ⟨4, _⟩ => ⟨S8x16384x128, .f32⟩
  | .hbm, ⟨5, _⟩ => ⟨S32x512x1024, .f32⟩
  | .hbm, ⟨6, _⟩ => ⟨S8x16384x4, .f32⟩
  | .hbm, ⟨7, _⟩ => ⟨S8x4x16384, .f32⟩
  | .hbm, ⟨8, _⟩ => ⟨S32x16384, .f32⟩
  | .hbm, ⟨9, _⟩ => ⟨S1x16384x512, .f32⟩
  | .hbm, ⟨10, _⟩ => ⟨S32x16384x1, .f32⟩
  | .hbm, ⟨11, _⟩ => ⟨S32x16384x512, .f32⟩
  | .hbm, ⟨12, _⟩ => ⟨S32x16384x512, .f32⟩
  | .hbm, ⟨13, _⟩ => ⟨S32x16384x512, .f32⟩
  | .hbm, ⟨14, _⟩ => ⟨S32x16384x1024, .f32⟩
  | .hbm, ⟨15, _⟩ => ⟨S_, .f32⟩
  | .hbm, ⟨16, _⟩ => ⟨S16384x1024, .f32⟩
  | .hbm, ⟨17, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Counts.lean ====
abbrev S1x128 : Shape := ⟨2, ![1, 128]⟩
abbrev S8x128 : Shape := ⟨2, ![8, 128]⟩
abbrev S7 : Shape := ⟨1, ![7]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S1x128, .f32⟩
  | .hbm, ⟨1, _⟩ => ⟨S8x128, .f32⟩
  | .local _ .vmem, ⟨0, _⟩ => ⟨S1x128, .f32⟩
  | .local _ .vmem, ⟨1, _⟩ => ⟨S8x128, .f32⟩
  | _, _ => ⟨S1x128, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v34 : Index := Scalar.indexCast v2
  let c0_30 : Index := 0#32
  ![v34.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  ![v2.toNat, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v36 : BitVec 32 := Scalar.addi v2 c1_i32_31
  let c8_i32_32 : BitVec 32 := 8#32
  let v37 : BitVec 32 := Scalar.remsi v36 c8_i32_32
  let c1_i32_35 : BitVec 32 := 1#32
  let v38 : BitVec 32 := Scalar.muli v37 c1_i32_35
  let v39 : BitVec 32 := Scalar.addi c0_i32_36 v38
  v39.toNat
def k0_dev9 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v45 : BitVec 32 := Scalar.addi v2 c2_i32_38
  let c8_i32_39 : BitVec 32 := 8#32
  let v46 : BitVec 32 := Scalar.remsi v45 c8_i32_39
  let c1_i32_42 : BitVec 32 := 1#32
  let v47 : BitVec 32 := Scalar.muli v46 c1_i32_42
  let v48 : BitVec 32 := Scalar.addi c0_i32_43 v47
  v48.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v54 : BitVec 32 := Scalar.addi v2 c3_i32_45
  let c8_i32_46 : BitVec 32 := 8#32
  let v55 : BitVec 32 := Scalar.remsi v54 c8_i32_46
  let c1_i32_49 : BitVec 32 := 1#32
  let v56 : BitVec 32 := Scalar.muli v55 c1_i32_49
  let v57 : BitVec 32 := Scalar.addi c0_i32_50 v56
  v57.toNat
def k0_dev11 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_52 : BitVec 32 := 4#32
  let v63 : BitVec 32 := Scalar.addi v2 c4_i32_52
  let c8_i32_53 : BitVec 32 := 8#32
  let v64 : BitVec 32 := Scalar.remsi v63 c8_i32_53
  let c1_i32_56 : BitVec 32 := 1#32
  let v65 : BitVec 32 := Scalar.muli v64 c1_i32_56
  let v66 : BitVec 32 := Scalar.addi c0_i32_57 v65
  v66.toNat
def k0_dev12 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_59 : BitVec 32 := 5#32
  let v72 : BitVec 32 := Scalar.addi v2 c5_i32_59
  let c8_i32_60 : BitVec 32 := 8#32
  let v73 : BitVec 32 := Scalar.remsi v72 c8_i32_60
  let c1_i32_63 : BitVec 32 := 1#32
  let v74 : BitVec 32 := Scalar.muli v73 c1_i32_63
  let v75 : BitVec 32 := Scalar.addi c0_i32_64 v74
  v75.toNat
def k0_dev13 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_66 : BitVec 32 := 6#32
  let v81 : BitVec 32 := Scalar.addi v2 c6_i32_66
  let c8_i32_67 : BitVec 32 := 8#32
  let v82 : BitVec 32 := Scalar.remsi v81 c8_i32_67
  let c1_i32_70 : BitVec 32 := 1#32
  let v83 : BitVec 32 := Scalar.muli v82 c1_i32_70
  let v84 : BitVec 32 := Scalar.addi c0_i32_71 v83
  v84.toNat
def k0_dev14 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_73 : BitVec 32 := 7#32
  let v90 : BitVec 32 := Scalar.addi v2 c7_i32_73
  let c8_i32_74 : BitVec 32 := 8#32
  let v91 : BitVec 32 := Scalar.remsi v90 c8_i32_74
  let c1_i32_77 : BitVec 32 := 1#32
  let v92 : BitVec 32 := Scalar.muli v91 c1_i32_77
  let v93 : BitVec 32 := Scalar.addi c0_i32_78 v92
  v93.toNat
def k0_off3 (d0 : Dev nD) (c1_i32_81 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_80 : BitVec 32 := 8#32
  let v99 : BitVec 32 := Scalar.addi v2 c8_i32_80
  let v100 : BitVec 32 := Scalar.subi v99 c1_i32_81
  let c8_i32_82 : BitVec 32 := 8#32
  let v101 : BitVec 32 := Scalar.remsi v100 c8_i32_82
  let c0_i32_87 : BitVec 32 := 0#32
  ![v101.toNat, 0]
abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== CountsReferenceIdeal.lean ====
abbrev S8x128 : Shape := ⟨2, ![8, 128]⟩

abbrev nBuf : Space → Nat
  | .hbm => 1
  | .vmem => 0
  | .smem => 0
  | _ => 0

abbrev bufTy : (tb : Table) → Fin (tcTables nBuf tb) → BufTy
  | .hbm, ⟨0, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Cube.Shape.lean ====
/-
The kernel's body in a structured form.

The printed body is one long sequence of memory operations. Here the same sequence is written with a handful of
named pieces — stage a slot, send a run of slots, wait for a run of slots, add one expert's product to a column tile —
and `body_eq` says that the printed body IS that sequence, by unfolding both.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen
open Idealize.ShloMosaic Idealize.ShloMosaic.TcCoe
open Idealize.SL.Sem

variable {F : FTy → Type} [FloatOps F]

/-! ## Shapes and memrefs -/

/-- A gathered-weights buffer of column width `w`: eight slots of four experts. -/
abbrev SB (w : ℕ) : Shape := ⟨4, ![8, 4, 512, w]⟩
/-- A run of `n` slots. -/
abbrev SN (n w : ℕ) : Shape := ⟨4, ![n, 4, 512, w]⟩
/-- One expert's weights in a slot. -/
abbrev SP (w : ℕ) : Shape := ⟨4, ![1, 1, 512, w]⟩
/-- A column tile of the result. -/
abbrev SO (w : ℕ) : Shape := ⟨2, ![2048, w]⟩
/-- One expert's weights, two-dimensional. -/
abbrev SW (w : ℕ) : Shape := ⟨2, ![512, w]⟩
/-- Four experts' weights. -/
abbrev SE (w : ℕ) : Shape := ⟨3, ![4, 512, w]⟩

abbrev xM : Memref sig .tc .vmem S2048x512 .bf16 := Memref.whole cc0_stg0_0
abbrev selM : Memref sig .tc .vmem S8x2048x128 .bf16 := Memref.whole cc0_stg1_0
abbrev wM : Memref sig .tc .vmem S4x512x1024 .bf16 := Memref.whole cc0_stg2_0
abbrev oM : Memref sig .tc .vmem S2048x1024 .bf16 := Memref.whole cc0_stg3_0

/-- Slots `[a, a + n)` lie in the buffer. -/
theorem inbSlots {w : ℕ} (a n : ℕ) (h : a + n ≤ 8) : ∀ i, (![a, 0, 0, 0] : Fin 4 → ℕ) i + (SN n w).size i ≤ (SB w).size i := fun i => by
  fin_cases i
  · exact h
  · exact le_of_eq (Nat.zero_add _)
  · exact le_of_eq (Nat.zero_add _)
  · exact le_of_eq (Nat.zero_add _)

/-- The length of the run phase `p` sends. -/
abbrev run (p : Fin 3) : ℕ := 2 ^ p.val
theorem run_le (p : Fin 3) : run p + run p ≤ 8 := by revert p; decide
theorem run_le' (p : Fin 3) : 0 + run p ≤ 8 := by revert p; decide

/-- The rectangle of slots `[a, a + n)`. -/
abbrev slotRect (w a n : ℕ) (h : a + n ≤ 8) : Rect (SB w) := Rect.unit (s := SB w) ![a, 0, 0, 0] (SN n w).size (inbSlots a n h)

/-- What the pieces of the body need of one column tile: its width and first column, the buffer its weights are
    gathered in, its matrix product, and the side conditions of the accesses. -/
structure Tile (F : FTy → Type) [FloatOps F] where
  w : ℕ
  lo : ℕ
  hw : 0 < w
  hlo : lo + w ≤ 1024
  buf : Memref sig .tc .vmem (SB w) .bf16
  whole : buf.IsWhole
  inScr : buf.view.ref.isScScratch = false
  inbO : ∀ a, (![0, lo] : Fin 2 → ℕ) a + (SO w).size a ≤ S2048x1024.size a
  inbW : ∀ a, (![0, 0, lo] : Fin 3 → ℕ) a + (SE w).size a ≤ S4x512x1024.size a
  storesO : (oM.access (Rect.unit (s := S2048x1024) ![0, lo] (SO w).size inbO)).Stores Finset.univ
  stores0 : (buf.access (slotRect w 0 1 (by decide))).Stores Finset.univ
  loadsO : 0 < (SO w).numel
  loadsP : 0 < (SP w).numel
  loadsW : 0 < (SE w).numel
  loads0 : 0 < (SN 1 w).numel
  srcW : ∀ p : Fin 3, (buf.slice (slotRect w 0 (run p) (run_le' p)) (fun _ => rfl)).view.WordExact
  dstW : ∀ p : Fin 3, (buf.slice (slotRect w (run p) (run p) (run_le p)) (fun _ => rfl)).view.WordExact
  castO : (SO w).ShapeCasts (SO w)
  castP : (SP w).ShapeCasts (SW w)
  castE : (SE w).ShapeCasts (SE w)
  cast1 : (SE w).ShapeCasts (SN 1 w)
  dot : DotDims S2048x512 (SW w) (SO w)

/-- The rectangle of a tile's columns in the result. -/
abbrev Tile.rO (T : Tile F) : Rect S2048x1024 := Rect.unit (s := S2048x1024) ![0, T.lo] (SO T.w).size T.inbO
/-- The rectangle of a tile's columns in the device's own weights. -/
abbrev Tile.rW (T : Tile F) : Rect S4x512x1024 := Rect.unit (s := S4x512x1024) ![0, 0, T.lo] (SE T.w).size T.inbW
/-- The slots phase `p` sends, and the slots it lands in. -/
abbrev Tile.src (T : Tile F) (p : Fin 3) : Memref sig .tc .vmem (SN (run p) T.w) .bf16 := T.buf.slice (slotRect T.w 0 (run p) (run_le' p)) (fun _ => rfl)
abbrev Tile.dst (T : Tile F) (p : Fin 3) : Memref sig .tc .vmem (SN (run p) T.w) .bf16 := T.buf.slice (slotRect T.w (run p) (run p) (run_le p)) (fun _ => rfl)

abbrev rX : Rect S2048x512 := Rect.unit (s := S2048x512) ![0, 0] S2048x512.size inb_S2048x512_S2048x512_0_0
abbrev rAll : Rect S2048x1024 := Rect.unit (s := S2048x1024) ![0, 0] S2048x1024.size inb_S2048x1024_S2048x1024_0_0

def T0 : Tile F where
  w := 384
  lo := 0
  hw := by decide
  hlo := by decide
  buf := Memref.whole cc0_scratch0
  whole := Memref.isWhole_whole _
  inScr := rfl
  inbO := inb_S2048x1024_S2048x384_0_0
  inbW := inb_S4x512x1024_S4x512x384_0_0_0
  storesO := View.stores_vmem h_S2048x384 ((Memref.isWhole_whole cc0_stg3_0).storeExact_slice rfl _ packedbf16_S2048x1024_S2048x384_0_0) (fun _ => rfl)
  stores0 := View.stores_vmem h_S1x4x512x384 ((Memref.isWhole_whole cc0_scratch0).storeExact_slice rfl _ packedbf16_S8x4x512x384_S1x4x512x384_0_0_0_0) (fun _ => rfl)
  loadsO := h_S2048x384
  loadsP := h_S1x1x512x384
  loadsW := h_S4x512x384
  loads0 := h_S1x4x512x384
  srcW := fun
    | 0 => (Memref.isWhole_whole cc0_scratch0).wordExact_slice rfl _ wordsbf16_S8x4x512x384_S1x4x512x384_0_0_0_0
    | 1 => (Memref.isWhole_whole cc0_scratch0).wordExact_slice rfl _ wordsbf16_S8x4x512x384_S2x4x512x384_0_0_0_0
    | 2 => (Memref.isWhole_whole cc0_scratch0).wordExact_slice rfl _ wordsbf16_S8x4x512x384_S4x4x512x384_0_0_0_0
  dstW := fun
    | 0 => (Memref.isWhole_whole cc0_scratch0).wordExact_slice rfl _ wordsbf16_S8x4x512x384_S1x4x512x384_1_0_0_0
    | 1 => (Memref.isWhole_whole cc0_scratch0).wordExact_slice rfl _ wordsbf16_S8x4x512x384_S2x4x512x384_2_0_0_0
    | 2 => (Memref.isWhole_whole cc0_scratch0).wordExact_slice rfl _ wordsbf16_S8x4x512x384_S4x4x512x384_4_0_0_0
  castO := shapeCasts_S2048x384_S2048x384
  castP := shapeCasts_S1x1x512x384_S512x384
  castE := shapeCasts_S4x512x384_S4x512x384
  cast1 := shapeCasts_S4x512x384_S1x4x512x384
  dot := dot_S2048x512_S512x384_S2048x384_1_0_0_1_n_n

def T1 : Tile F where
  w := 384
  lo := 384
  hw := by decide
  hlo := by decide
  buf := Memref.whole cc0_scratch1
  whole := Memref.isWhole_whole _
  inScr := rfl
  inbO := inb_S2048x1024_S2048x384_0_384
  inbW := inb_S4x512x1024_S4x512x384_0_0_384
  storesO := View.stores_vmem h_S2048x384 ((Memref.isWhole_whole cc0_stg3_0).storeExact_slice rfl _ packedbf16_S2048x1024_S2048x384_0_384) (fun _ => rfl)
  stores0 := View.stores_vmem h_S1x4x512x384 ((Memref.isWhole_whole cc0_scratch1).storeExact_slice rfl _ packedbf16_S8x4x512x384_S1x4x512x384_0_0_0_0) (fun _ => rfl)
  loadsO := h_S2048x384
  loadsP := h_S1x1x512x384
  loadsW := h_S4x512x384
  loads0 := h_S1x4x512x384
  srcW := fun
    | 0 => (Memref.isWhole_whole cc0_scratch1).wordExact_slice rfl _ wordsbf16_S8x4x512x384_S1x4x512x384_0_0_0_0
    | 1 => (Memref.isWhole_whole cc0_scratch1).wordExact_slice rfl _ wordsbf16_S8x4x512x384_S2x4x512x384_0_0_0_0
    | 2 => (Memref.isWhole_whole cc0_scratch1).wordExact_slice rfl _ wordsbf16_S8x4x512x384_S4x4x512x384_0_0_0_0
  dstW := fun
    | 0 => (Memref.isWhole_whole cc0_scratch1).wordExact_slice rfl _ wordsbf16_S8x4x512x384_S1x4x512x384_1_0_0_0
    | 1 => (Memref.isWhole_whole cc0_scratch1).wordExact_slice rfl _ wordsbf16_S8x4x512x384_S2x4x512x384_2_0_0_0
    | 2 => (Memref.isWhole_whole cc0_scratch1).wordExact_slice rfl _ wordsbf16_S8x4x512x384_S4x4x512x384_4_0_0_0
  castO := shapeCasts_S2048x384_S2048x384
  castP := shapeCasts_S1x1x512x384_S512x384
  castE := shapeCasts_S4x512x384_S4x512x384
  cast1 := shapeCasts_S4x512x384_S1x4x512x384
  dot := dot_S2048x512_S512x384_S2048x384_1_0_0_1_n_n

def T2 : Tile F where
  w := 256
  lo := 768
  hw := by decide
  hlo := by decide
  buf := Memref.whole cc0_scratch2
  whole := Memref.isWhole_whole _
  inScr := rfl
  inbO := inb_S2048x1024_S2048x256_0_768
  inbW := inb_S4x512x1024_S4x512x256_0_0_768
  storesO := View.stores_vmem h_S2048x256 ((Memref.isWhole_whole cc0_stg3_0).storeExact_slice rfl _ packedbf16_S2048x1024_S2048x256_0_768) (fun _ => rfl)
  stores0 := View.stores_vmem h_S1x4x512x256 ((Memref.isWhole_whole cc0_scratch2).storeExact_slice rfl _ packedbf16_S8x4x512x256_S1x4x512x256_0_0_0_0) (fun _ => rfl)
  loadsO := h_S2048x256
  loadsP := h_S1x1x512x256
  loadsW := h_S4x512x256
  loads0 := h_S1x4x512x256
  srcW := fun
    | 0 => (Memref.isWhole_whole cc0_scratch2).wordExact_slice rfl _ wordsbf16_S8x4x512x256_S1x4x512x256_0_0_0_0
    | 1 => (Memref.isWhole_whole cc0_scratch2).wordExact_slice rfl _ wordsbf16_S8x4x512x256_S2x4x512x256_0_0_0_0
    | 2 => (Memref.isWhole_whole cc0_scratch2).wordExact_slice rfl _ wordsbf16_S8x4x512x256_S4x4x512x256_0_0_0_0
  dstW := fun
    | 0 => (Memref.isWhole_whole cc0_scratch2).wordExact_slice rfl _ wordsbf16_S8x4x512x256_S1x4x512x256_1_0_0_0
    | 1 => (Memref.isWhole_whole cc0_scratch2).wordExact_slice rfl _ wordsbf16_S8x4x512x256_S2x4x512x256_2_0_0_0
    | 2 => (Memref.isWhole_whole cc0_scratch2).wordExact_slice rfl _ wordsbf16_S8x4x512x256_S4x4x512x256_4_0_0_0
  castO := shapeCasts_S2048x256_S2048x256
  castP := shapeCasts_S1x1x512x256_S512x256
  castE := shapeCasts_S4x512x256_S4x512x256
  cast1 := shapeCasts_S4x512x256_S1x4x512x256
  dot := dot_S2048x512_S512x256_S2048x256_1_0_0_1_n_n

/-! ## The payloads -/

theorem slicesJ (j : Fin 4) : S2048x128.Slices ![0, j.val] S2048x1 := match j with
  | 0 => slices_S2048x128_o0_0_S2048x1
  | 1 => slices_S2048x128_o0_1_S2048x1
  | 2 => slices_S2048x128_o0_2_S2048x1
  | 3 => slices_S2048x128_o0_3_S2048x1

/-- `x` with the tokens not selected for expert `j` of the group zeroed: the rows multiplied by the selection column. -/
def chosen (sel : Vec F S1x2048x128 .bf16) (j : Fin 4) (x : Vec F S2048x512 .bf16) : FVec F S2048x512 .bf16 :=
  mulf (shapeCast S2048x512 x shapeCasts_S2048x512_S2048x512)
    (broadcastTo S2048x512 (extractStridedSlice S2048x1 ![0, j.val] (shapeCast S2048x128 sel shapeCasts_S1x2048x128_S2048x128) (slicesJ j)) broadcasts_S2048x1_S2048x512)

/-- A column tile of the result with one expert's product added. -/
def Tile.add (T : Tile F) (sel : Vec F S1x2048x128 .bf16) (j : Fin 4) (o : Vec F (SO T.w) .bf16) (x : Vec F S2048x512 .bf16) (b : Vec F (SP T.w) .bf16) : Vec F (SO T.w) .bf16 :=
  addf (shapeCast (SO T.w) o T.castO)
    (truncf .bf16 (matmul T.dot none (chosen sel j x) (shapeCast (SW T.w) b T.castP) (constant (SO T.w) .f32 0x00000000#32)) bitsLt_bf16_f32)

/-- The whole result with one of the device's own experts' product added. -/
def addAll (sel : Vec F S1x2048x128 .bf16) (j : Fin 4) (o : Vec F S2048x1024 .bf16) (x : Vec F S2048x512 .bf16) (b : Vec F S1x512x1024 .bf16) : Vec F S2048x1024 .bf16 :=
  addf (shapeCast S2048x1024 o shapeCasts_S2048x1024_S2048x1024)
    (truncf .bf16 (matmul dot_S2048x512_S512x1024_S2048x1024_1_0_0_1_n_n none (chosen sel j x) (shapeCast S512x1024 b shapeCasts_S1x512x1024_S512x1024)
      (constant S2048x1024 .f32 0x00000000#32)) bitsLt_bf16_f32)

/-- A tile's columns of the device's own weights, as slot 0 of its buffer. -/
def Tile.slot0 (T : Tile F) (v : Vec F (SE T.w) .bf16) : Vec F (SN 1 T.w) .bf16 :=
  shapeCast (SN 1 T.w) (shapeCast (SE T.w) v T.castE) T.cast1

/-! ## The pieces -/

abbrev P (F : FTy → Type) [FloatOps F] : Type → Type 1 := Prog (TpuEff nD τ sig (Elt F) Λ₀ .tc)

/-- Semaphore `x` of an array of nine. -/
theorem inb9 (x : Fin 9) : ∀ a, (![x.val] : Fin 1 → ℕ) a + S1.size a ≤ S9.size a := fun a => by
  fin_cases a; exact x.isLt
def semAt (A : DmaSems sig S9) (x : Fin 9) : DmaSem sig := ((A.slice (Rect.unit (s := S9) ![x.val] S1.size (inb9 x))).squeeze S_ squeezes_S1_S_).sem

/-- The runtime's barrier semaphore. -/
abbrev barS : Sem sig := (SemArray.scalar (sig.barrier 1 rfl) : Sems sig S_).sem

/-- Read a rectangle of the result, `x` and a rectangle of some weights, read the rectangle again, and store `pay` of the first three in it. -/
def accOp {s : Shape} (m : Memref sig .tc .vmem s .bf16) (r : LoadRect s) (hr : m.view.LoadsAt r) (rO : Rect S2048x1024)
    (hO : oM.view.LoadsAt rO.toLoadRect) (hS : (oM.access rO).Stores Finset.univ)
    (pay : Vec F rO.shape .bf16 → Vec F S2048x512 .bf16 → Vec F r.shape .bf16 → Vec F rO.shape .bf16) : P F PUnit :=
  .op (.load oM rO.toLoadRect hO) fun o => .op (.load xM rX.toLoadRect (View.loadsAt_vmem h_S2048x512)) fun x => .op (.load m r hr) fun b =>
    .op (.load oM rO.toLoadRect hO) fun _ => .op (.store oM rO (pay o x b) Finset.univ hS (.inl rfl)) .ret

/-- Add expert `j` of the weights at offset `bo` of a tile's buffer to the tile's columns. -/
def Tile.acc (T : Tile F) (sel : Vec F S1x2048x128 .bf16) (j : Fin 4) (bo : Fin 4 → ℕ) (hb : ∀ a, bo a + (SP T.w).size a ≤ (SB T.w).size a) : P F PUnit :=
  accOp T.buf (Rect.unit (s := SB T.w) bo (SP T.w).size hb).toLoadRect (View.loadsAt_vmem T.loadsP) T.rO (View.loadsAt_vmem T.loadsO) T.storesO (T.add sel j)

/-- Read a group's selection columns at offset `so`, then add the group's four experts, the weights at offsets `bo`. -/
def Tile.piece (T : Tile F) (so : Fin 3 → ℕ) (hs : ∀ a, so a + S1x2048x128.size a ≤ S8x2048x128.size a) (bo : Fin 4 → Fin 4 → ℕ)
    (hb : ∀ j a, bo j a + (SP T.w).size a ≤ (SB T.w).size a) : P F PUnit :=
  .op (.load selM (Rect.unit (s := S8x2048x128) so S1x2048x128.size hs).toLoadRect (View.loadsAt_vmem h_S1x2048x128)) fun sel =>
    T.acc sel 0 (bo 0) (hb 0) >>= fun _ => T.acc sel 1 (bo 1) (hb 1) >>= fun _ => T.acc sel 2 (bo 2) (hb 2) >>= fun _ => T.acc sel 3 (bo 3) (hb 3)

theorem inbOwn (j : Fin 4) : ∀ a, (![j.val, 0, 0] : Fin 3 → ℕ) a + S1x512x1024.size a ≤ S4x512x1024.size a := fun a => by
  fin_cases a
  · exact j.isLt
  · exact le_of_eq (Nat.zero_add _)
  · exact le_of_eq (Nat.zero_add _)

theorem storesAll : (oM.access rAll).Stores Finset.univ :=
  View.stores_vmem h_S2048x1024 ((Memref.isWhole_whole cc0_stg3_0).storeExact_slice rfl _ packedbf16_S2048x1024_S2048x1024_0_0) (fun _ => rfl)

/-- Add the device's own expert `j` to the whole result. -/
def ownAcc (sel : Vec F S1x2048x128 .bf16) (j : Fin 4) : P F PUnit :=
  accOp wM (Rect.unit (s := S4x512x1024) ![j.val, 0, 0] S1x512x1024.size (inbOwn j)).toLoadRect (View.loadsAt_vmem h_S1x512x1024) rAll
    (View.loadsAt_vmem h_S2048x1024) storesAll (addAll sel j)

/-- Zero the result and add the device's own four experts. -/
def own (d0 : Dev nD) : P F PUnit :=
  .op (.load oM rAll.toLoadRect (View.loadsAt_vmem h_S2048x1024)) fun _ => .op (.store oM rAll (k0_pay58 (F := F)) Finset.univ storesAll (.inl rfl)) fun _ =>
    .op (.load selM (Rect.unit (s := S8x2048x128) (k0_off1 d0) S1x2048x128.size (k0_off1_inb d0)).toLoadRect (View.loadsAt_vmem h_S1x2048x128)) fun sel =>
      ownAcc sel 0 >>= fun _ => ownAcc sel 1 >>= fun _ => ownAcc sel 2 >>= fun _ => ownAcc sel 3

/-- Copy a tile's columns of the device's own weights to slot 0 of the tile's buffer. -/
def Tile.stage (T : Tile F) : P F PUnit :=
  .op (.load wM T.rW.toLoadRect (View.loadsAt_vmem T.loadsW)) fun v =>
    .op (.load T.buf (slotRect T.w 0 1 (by decide)).toLoadRect (View.loadsAt_vmem T.loads0)) fun _ =>
      .op (.store T.buf (slotRect T.w 0 1 (by decide)) (T.slot0 v) Finset.univ T.stores0 (.inl rfl)) .ret

/-- Phase `p`'s copy of a tile's first slots to the slots after them at device `d`, over semaphores `x`. -/
def Tile.send (T : Tile F) (p : Fin 3) (x : Fin 9) (d : Dev nD) : P F PUnit :=
  .op (.enqueueDma (T.src p) (.remote (Dev.tc d) (T.dst p) (.dma (semAt cc0_scratch3 x)) T.inScr) (.dma (semAt cc0_scratch4 x)) (T.srcW p) (T.dstW p)
    ⟨⟨rfl, Or.inl rfl⟩, trivial⟩) .ret

/-- Wait for phase `p`'s copy into this device. -/
def Tile.recvd (T : Tile F) (p : Fin 3) (x : Fin 9) : P F PUnit :=
  .op (.waitDma2 (semAt cc0_scratch4 x) (T.src p) (T.dst p) (T.srcW p) (T.dstW p)) .ret

/-- Wait for phase `p`'s copy out of this device. -/
def Tile.sent (T : Tile F) (p : Fin 3) (x : Fin 9) : P F PUnit :=
  .op (.waitDma2 (semAt cc0_scratch3 x) (T.dst p) (T.src p) (T.dstW p) (T.srcW p)) .ret

/-- One expert's weights at offset `bo` lie in the buffer. -/
abbrev InbP {w : ℕ} (bo : Fin 4 → ℕ) : Prop := ∀ a, bo a + (SP w).size a ≤ (SB w).size a

theorem vec4 {A : Type} {Q : A → Prop} {a b c d : A} (h0 : Q a) (h1 : Q b) (h2 : Q c) (h3 : Q d) : ∀ j : Fin 4, Q (![a, b, c, d] j) := fun j => by
  fin_cases j
  · exact h0
  · exact h1
  · exact h2
  · exact h3

theorem inbP {w : ℕ} (k j : ℕ) (hk : k < 8) (hj : j < 4) : ∀ a, (![k, j, 0, 0] : Fin 4 → ℕ) a + (SP w).size a ≤ (SB w).size a := fun a => by
  fin_cases a
  · exact hk
  · exact hj
  · exact le_of_eq (Nat.zero_add _)
  · exact le_of_eq (Nat.zero_add _)

/-- The offsets of slot 1's four experts. -/
abbrev offs1 (j : Fin 4) : Fin 4 → ℕ := ![1, j.val, 0, 0]

/-- The three signals to the neighbours and the wait for theirs. -/
def handshake (d0 : Dev nD) : P F PUnit :=
  .op (.semSignal (⟨k0_dev1 d0, k0_dev1_lt d0⟩, .tc) barS 1) fun _ => .op (.semSignal (⟨k0_dev2 d0, k0_dev2_lt d0⟩, .tc) barS 1) fun _ =>
    .op (.semSignal (⟨k0_dev3 d0, k0_dev3_lt d0⟩, .tc) barS 1) fun _ => .op (.semWait barS 3) .ret

/-! The loops: slots 2 and 3 of each tile, then slots 4 to 7. -/

def loop1 (d0 : Dev nD) : P F Unit :=
  Scf.Loop.for k0_t1_loop k0_t1_ok ⟨⟩ fun k _ => T2.piece (k0_off3 d0 k) (k0_off3_inb d0 k) ![k0_off4 k, k0_off5 k, k0_off6 k, k0_off7 k]
    (vec4 (Q := InbP (w := 256)) (k0_off4_inb k) (k0_off5_inb k) (k0_off6_inb k) (k0_off7_inb k))
def loop2 (d0 : Dev nD) : P F Unit :=
  Scf.Loop.for k0_t2_loop k0_t2_ok ⟨⟩ fun k _ => T0.piece (k0_off8 d0 k) (k0_off8_inb d0 k) ![k0_off9 k, k0_off10 k, k0_off11 k, k0_off12 k]
    (vec4 (Q := InbP (w := 384)) (k0_off9_inb k) (k0_off10_inb k) (k0_off11_inb k) (k0_off12_inb k))
def loop3 (d0 : Dev nD) : P F Unit :=
  Scf.Loop.for k0_t3_loop k0_t3_ok ⟨⟩ fun k _ => T1.piece (k0_off13 d0 k) (k0_off13_inb d0 k) ![k0_off14 k, k0_off15 k, k0_off16 k, k0_off17 k]
    (vec4 (Q := InbP (w := 384)) (k0_off14_inb k) (k0_off15_inb k) (k0_off16_inb k) (k0_off17_inb k))
def loop4 (d0 : Dev nD) : P F Unit :=
  Scf.Loop.for k0_t4_loop k0_t4_ok ⟨⟩ fun k _ => T2.piece (k0_off18 d0 k) (k0_off18_inb d0 k) ![k0_off19 k, k0_off20 k, k0_off21 k, k0_off22 k]
    (vec4 (Q := InbP (w := 256)) (k0_off19_inb k) (k0_off20_inb k) (k0_off21_inb k) (k0_off22_inb k))
def loop5 (d0 : Dev nD) : P F Unit :=
  Scf.Loop.for k0_t5_loop k0_t5_ok ⟨⟩ fun k _ => T0.piece (k0_off23 d0 k) (k0_off23_inb d0 k) ![k0_off24 k, k0_off25 k, k0_off26 k, k0_off27 k]
    (vec4 (Q := InbP (w := 384)) (k0_off24_inb k) (k0_off25_inb k) (k0_off26_inb k) (k0_off27_inb k))
def loop6 (d0 : Dev nD) : P F Unit :=
  Scf.Loop.for k0_t6_loop k0_t6_ok ⟨⟩ fun k _ => T1.piece (k0_off28 d0 k) (k0_off28_inb d0 k) ![k0_off29 k, k0_off30 k, k0_off31 k, k0_off32 k]
    (vec4 (Q := InbP (w := 384)) (k0_off29_inb k) (k0_off30_inb k) (k0_off31_inb k) (k0_off32_inb k))

/-- The body of device `d0`. -/
def prog (d0 : Dev nD) : P F PUnit :=
  handshake d0 >>= fun _ =>
  T0.stage >>= fun _ => T1.stage >>= fun _ => T2.stage >>= fun _ =>
  T0.send 0 0 ⟨k0_dev4 d0, k0_dev4_lt d0⟩ >>= fun _ => T1.send 0 3 ⟨k0_dev5 d0, k0_dev5_lt d0⟩ >>= fun _ => T2.send 0 6 ⟨k0_dev6 d0, k0_dev6_lt d0⟩ >>= fun _ =>
  own d0 >>= fun _ =>
  T2.recvd 0 6 >>= fun _ => T2.send 1 7 ⟨k0_dev7 d0, k0_dev7_lt d0⟩ >>= fun _ =>
  T0.recvd 0 0 >>= fun _ => T0.send 1 1 ⟨k0_dev8 d0, k0_dev8_lt d0⟩ >>= fun _ =>
  T1.recvd 0 3 >>= fun _ => T1.send 1 4 ⟨k0_dev9 d0, k0_dev9_lt d0⟩ >>= fun _ =>
  T2.piece (k0_off2 d0 4#32 1#32 3#32) (k0_off2_inb d0 0) offs1 (fun j => inbP 1 j.val (by decide) j.isLt) >>= fun _ =>
  T0.piece (k0_off2 d0 1#32 3#32 4#32) (k0_off2_inb d0 1) offs1 (fun j => inbP 1 j.val (by decide) j.isLt) >>= fun _ =>
  T1.piece (k0_off2 d0 3#32 4#32 1#32) (k0_off2_inb d0 2) offs1 (fun j => inbP 1 j.val (by decide) j.isLt) >>= fun _ =>
  T2.recvd 1 7 >>= fun _ => T2.send 2 8 ⟨k0_dev10 d0, k0_dev10_lt d0⟩ >>= fun _ =>
  T0.recvd 1 1 >>= fun _ => T0.send 2 2 ⟨k0_dev11 d0, k0_dev11_lt d0⟩ >>= fun _ =>
  T1.recvd 1 4 >>= fun _ => T1.send 2 5 ⟨k0_dev12 d0, k0_dev12_lt d0⟩ >>= fun _ =>
  loop1 d0 >>= fun _ =>
  loop2 d0 >>= fun _ =>
  loop3 d0 >>= fun _ =>
  T2.recvd 2 8 >>= fun _ =>
  loop4 d0 >>= fun _ =>
  T0.recvd 2 2 >>= fun _ =>
  loop5 d0 >>= fun _ =>
  T1.recvd 2 5 >>= fun _ =>
  loop6 d0 >>= fun _ =>
  T0.sent 0 0 >>= fun _ => T1.sent 0 3 >>= fun _ => T2.sent 0 6 >>= fun _ => T2.sent 1 7 >>= fun _ => T0.sent 1 1 >>= fun _ =>
  T1.sent 1 4 >>= fun _ => T2.sent 2 8 >>= fun _ => T0.sent 2 2 >>= fun _ => T1.sent 2 5

/-- The printed body's own bracketing of the sequence. -/
def printed (d0 : Dev nD) : P F PUnit :=
  handshake d0 >>= fun _ =>
  T0.stage >>= fun _ => T1.stage >>= fun _ => T2.stage >>= fun _ =>
  T0.send 0 0 ⟨k0_dev4 d0, k0_dev4_lt d0⟩ >>= fun _ => T1.send 0 3 ⟨k0_dev5 d0, k0_dev5_lt d0⟩ >>= fun _ => T2.send 0 6 ⟨k0_dev6 d0, k0_dev6_lt d0⟩ >>= fun _ =>
  own d0 >>= fun _ =>
  T2.recvd 0 6 >>= fun _ => T2.send 1 7 ⟨k0_dev7 d0, k0_dev7_lt d0⟩ >>= fun _ =>
  T0.recvd 0 0 >>= fun _ => T0.send 1 1 ⟨k0_dev8 d0, k0_dev8_lt d0⟩ >>= fun _ =>
  T1.recvd 0 3 >>= fun _ => T1.send 1 4 ⟨k0_dev9 d0, k0_dev9_lt d0⟩ >>= fun _ =>
  T2.piece (k0_off2 d0 4#32 1#32 3#32) (k0_off2_inb d0 0) offs1 (fun j => inbP 1 j.val (by decide) j.isLt) >>= fun _ =>
  T0.piece (k0_off2 d0 1#32 3#32 4#32) (k0_off2_inb d0 1) offs1 (fun j => inbP 1 j.val (by decide) j.isLt) >>= fun _ =>
  T1.piece (k0_off2 d0 3#32 4#32 1#32) (k0_off2_inb d0 2) offs1 (fun j => inbP 1 j.val (by decide) j.isLt) >>= fun _ =>
  T2.recvd 1 7 >>= fun _ => T2.send 2 8 ⟨k0_dev10 d0, k0_dev10_lt d0⟩ >>= fun _ =>
  T0.recvd 1 1 >>= fun _ => T0.send 2 2 ⟨k0_dev11 d0, k0_dev11_lt d0⟩ >>= fun _ =>
  T1.recvd 1 4 >>= fun _ => T1.send 2 5 ⟨k0_dev12 d0, k0_dev12_lt d0⟩ >>= fun _ =>
  (loop1 d0 >>= fun _ => .ret 2#32) >>= fun (_ : BitVec 32) =>
  (loop2 d0 >>= fun _ => loop3 d0 >>= fun _ => T2.recvd 2 8 >>= fun _ => loop4 d0 >>= fun _ => T0.recvd 2 2 >>= fun _ => .ret 4#32) >>= fun (_ : BitVec 32) =>
  (loop5 d0 >>= fun _ => T1.recvd 2 5 >>= fun _ => loop6 d0 >>= fun _ => T0.sent 0 0) >>= fun _ =>
  T1.sent 0 3 >>= fun _ => T2.sent 0 6 >>= fun _ => T2.sent 1 7 >>= fun _ => T0.sent 1 1 >>= fun _ =>
  T1.sent 1 4 >>= fun _ => T2.sent 2 8 >>= fun _ => T0.sent 2 2

set_option maxRecDepth 65536 in
theorem printed_eq : bodyAt0 (F := F) (⟨0, by decide⟩ : Fin cfg0.N) = .op .deviceId (fun d0 => printed d0 >>= fun _ => T1.sent 2 5) := by chain_rfl

/-- The printed body is the sequence `prog`. -/
theorem body_eq : bodyAt0 (F := F) (⟨0, by decide⟩ : Fin cfg0.N) = .op .deviceId (fun d0 => prog d0) := by
  rw [printed_eq]
  refine congrArg _ (funext fun d0 => ?_)
  simp only [printed, prog, bind_assoc, Prog.bind_ret]

end Cert.Cube

end
-- ==== Proof.Cube.Tables.lean ====
/-
The tables of the all-gather: which neighbour each transfer goes to, and whose weights each slot ends up holding.

Eight devices, numbered by three bits; a device's three neighbours differ from it by the masks 1, 3 and 4. The nine
transfers of a device are numbered `3 t + p` for column tile `t` and phase `p`; transfer `x` goes to (and comes from)
the neighbour along direction `dir x`. The same neighbour is partner in both ways, so one table serves both.
-/
module

public import proofs.«01_k».proof.Proof.Cube.Shape

@[expose] public section

noncomputable section

namespace Cert.Cube

open Cert.KernelIdeal Cert.KernelIdeal.Gen
open Idealize.ShloMosaic Idealize.ShloMosaic.TcCoe

variable {F : FTy → Type} [FloatOps F]

/-! ## Transfers and devices -/

/-- The column tiles. -/
def tl : Fin 3 → Tile F := fun | 0 => T0 | 1 => T1 | 2 => T2

/-- The tile and the phase of a transfer. -/
def til : Fin 9 → Fin 3 := ![0, 0, 0, 1, 1, 1, 2, 2, 2]
def ph : Fin 9 → Fin 3 := ![0, 1, 2, 0, 1, 2, 0, 1, 2]

/-- The masks of the three directions. -/
def mask : Fin 3 → ℕ := ![1, 3, 4]

set_option backward.proofsInPublic true in
/-- The neighbour of `c` along a direction. -/
def nb (c : Dev nD) (i : Fin 3) : Dev nD := ⟨(c.val ^^^ mask i) % 8, Nat.mod_lt _ (by decide)⟩
theorem nb_nb (c : Dev nD) (i : Fin 3) : nb (nb c i) i = c := by revert c i; decide

/-- The direction of tile `t`'s phase `p`, and of a transfer. -/
def dirs (t p : Fin 3) : Fin 3 := ⟨(t.val + p.val) % 3, Nat.mod_lt _ (by decide)⟩
def dir (x : Fin 9) : Fin 3 := dirs (til x) (ph x)
/-- The device at the other end of transfer `x` of `c`. -/
def par (c : Dev nD) (x : Fin 9) : Dev nD := nb c (dir x)
theorem par_par (c : Dev nD) (x : Fin 9) : par (par c x) x = c := nb_nb c _

/-- The three transfers of a direction. -/
def via : Fin 3 → Fin 3 → Fin 9 := ![![0, 5, 7], ![1, 3, 8], ![2, 4, 6]]
theorem par_via (c : Dev nD) (i j : Fin 3) : par c (via i j) = nb c i := by revert c i j; decide

/-- One bit of a slot number, as a mask. -/
def bit (k b : ℕ) (i : Fin 3) : ℕ := if k.testBit b then mask i else 0
set_option backward.proofsInPublic true in
/-- The device whose weights slot `k` of tile `t`'s buffer holds at device `c` in the end. -/
def org (t : Fin 3) (c : Dev nD) (k : ℕ) : Dev nD :=
  ⟨(c.val ^^^ (bit k 0 (dirs t 0) ^^^ (bit k 1 (dirs t 1) ^^^ bit k 2 (dirs t 2)))) % 8, Nat.mod_lt _ (by decide)⟩

theorem org_zero (t : Fin 3) (c : Dev nD) : org t c 0 = c := by revert t c; decide
/-- Slot `2^p + k` gets what the partner's slot `k` holds. -/
theorem org_par (c : Dev nD) (x : Fin 9) (k : Fin 8) (h : k.val < run (ph x)) : org (til x) (par c x) k.val = org (til x) c (k.val + run (ph x)) := by
  revert c x k; decide
/-- Every device's weights are in exactly one slot. -/
theorem org_bijective (t : Fin 3) (c : Dev nD) : Function.Bijective (fun k : Fin 8 => org t c k.val) := by
  revert t c; decide

theorem dev1_eq (c : Dev nD) : (⟨k0_dev1 c, k0_dev1_lt c⟩ : Dev nD) = nb c 0 := Fin.ext (by revert c; decide)
theorem dev2_eq (c : Dev nD) : (⟨k0_dev2 c, k0_dev2_lt c⟩ : Dev nD) = nb c 1 := Fin.ext (by revert c; decide)
theorem dev3_eq (c : Dev nD) : (⟨k0_dev3 c, k0_dev3_lt c⟩ : Dev nD) = nb c 2 := Fin.ext (by revert c; decide)
theorem dev4_eq (c : Dev nD) : (⟨k0_dev4 c, k0_dev4_lt c⟩ : Dev nD) = par c 0 := Fin.ext (by revert c; decide)
theorem dev5_eq (c : Dev nD) : (⟨k0_dev5 c, k0_dev5_lt c⟩ : Dev nD) = par c 3 := Fin.ext (by revert c; decide)
theorem dev6_eq (c : Dev nD) : (⟨k0_dev6 c, k0_dev6_lt c⟩ : Dev nD) = par c 6 := Fin.ext (by revert c; decide)
theorem dev7_eq (c : Dev nD) : (⟨k0_dev7 c, k0_dev7_lt c⟩ : Dev nD) = par c 7 := Fin.ext (by revert c; decide)
theorem dev8_eq (c : Dev nD) : (⟨k0_dev8 c, k0_dev8_lt c⟩ : Dev nD) = par c 1 := Fin.ext (by revert c; decide)
theorem dev9_eq (c : Dev nD) : (⟨k0_dev9 c, k0_dev9_lt c⟩ : Dev nD) = par c 4 := Fin.ext (by revert c; decide)
theorem dev10_eq (c : Dev nD) : (⟨k0_dev10 c, k0_dev10_lt c⟩ : Dev nD) = par c 8 := Fin.ext (by revert c; decide)
theorem dev11_eq (c : Dev nD) : (⟨k0_dev11 c, k0_dev11_lt c⟩ : Dev nD) = par c 2 := Fin.ext (by revert c; decide)
theorem dev12_eq (c : Dev nD) : (⟨k0_dev12 c, k0_dev12_lt c⟩ : Dev nD) = par c 5 := Fin.ext (by revert c; decide)

/-! ## The program over the tables -/

theorem inbSel (d : Dev nD) : ∀ a, (![d.val, 0, 0] : Fin 3 → ℕ) a + S1x2048x128.size a ≤ S8x2048x128.size a := fun a => by
  fin_cases a
  · exact d.isLt
  · exact le_of_eq (Nat.zero_add _)
  · exact le_of_eq (Nat.zero_add _)

/-- Add the four experts of slot `k` of tile `t`. -/
def pieceAt (t : Fin 3) (c : Dev nD) (k : Fin 8) : P F PUnit :=
  (tl t).piece ![(org t c k.val).val, 0, 0] (inbSel _) (fun j => ![k.val, j.val, 0, 0]) (fun j => inbP k.val j.val k.isLt j.isLt)

theorem piece_congr {t : Fin 3} {so so' : Fin 3 → ℕ} {hs hs'} {bo bo' : Fin 4 → Fin 4 → ℕ} {hb hb'} (h : so = so') (h' : bo = bo') :
    (tl (F := F) t).piece so hs bo hb = (tl t).piece so' hs' bo' hb' := by subst h h'; rfl

theorem first_piece (t : Fin 3) (c : Dev nD) {so hs hb} (h : so = ![(org t c 1).val, 0, 0]) :
    (tl (F := F) t).piece so hs offs1 hb = pieceAt t c 1 := piece_congr h rfl

theorem off2_0 (c : Dev nD) : k0_off2 c 4#32 1#32 3#32 = ![(org 2 c 1).val, 0, 0] := by revert c; decide
theorem off2_1 (c : Dev nD) : k0_off2 c 1#32 3#32 4#32 = ![(org 0 c 1).val, 0, 0] := by revert c; decide
theorem off2_2 (c : Dev nD) : k0_off2 c 3#32 4#32 1#32 = ![(org 1 c 1).val, 0, 0] := by revert c; decide
theorem off1_eq (c : Dev nD) : k0_off1 c = ![c.val, 0, 0] := by revert c; decide

set_option maxRecDepth 4000 in
theorem trip1 (c : Dev nD) (k : Fin k0_t1_loop.trips) : k0_off3 c k = ![(org 2 c (2 + k.val)).val, 0, 0]
    ∧ (![k0_off4 k, k0_off5 k, k0_off6 k, k0_off7 k] : Fin 4 → Fin 4 → ℕ) = fun j => ![2 + k.val, j.val, 0, 0] := by revert c k; decide
set_option maxRecDepth 4000 in
theorem trip2 (c : Dev nD) (k : Fin k0_t2_loop.trips) : k0_off8 c k = ![(org 0 c (2 + k.val)).val, 0, 0]
    ∧ (![k0_off9 k, k0_off10 k, k0_off11 k, k0_off12 k] : Fin 4 → Fin 4 → ℕ) = fun j => ![2 + k.val, j.val, 0, 0] := by revert c k; decide
set_option maxRecDepth 4000 in
theorem trip3 (c : Dev nD) (k : Fin k0_t3_loop.trips) : k0_off13 c k = ![(org 1 c (2 + k.val)).val, 0, 0]
    ∧ (![k0_off14 k, k0_off15 k, k0_off16 k, k0_off17 k] : Fin 4 → Fin 4 → ℕ) = fun j => ![2 + k.val, j.val, 0, 0] := by revert c k; decide
set_option maxRecDepth 4000 in
theorem trip4 (c : Dev nD) (k : Fin k0_t4_loop.trips) : k0_off18 c k = ![(org 2 c (4 + k.val)).val, 0, 0]
    ∧ (![k0_off19 k, k0_off20 k, k0_off21 k, k0_off22 k] : Fin 4 → Fin 4 → ℕ) = fun j => ![4 + k.val, j.val, 0, 0] := by revert c k; decide
set_option maxRecDepth 4000 in
theorem trip5 (c : Dev nD) (k : Fin k0_t5_loop.trips) : k0_off23 c k = ![(org 0 c (4 + k.val)).val, 0, 0]
    ∧ (![k0_off24 k, k0_off25 k, k0_off26 k, k0_off27 k] : Fin 4 → Fin 4 → ℕ) = fun j => ![4 + k.val, j.val, 0, 0] := by revert c k; decide
set_option maxRecDepth 4000 in
theorem trip6 (c : Dev nD) (k : Fin k0_t6_loop.trips) : k0_off28 c k = ![(org 1 c (4 + k.val)).val, 0, 0]
    ∧ (![k0_off29 k, k0_off30 k, k0_off31 k, k0_off32 k] : Fin 4 → Fin 4 → ℕ) = fun j => ![4 + k.val, j.val, 0, 0] := by revert c k; decide

/-- The pieces of tile `t` for slots `s`, `s + 1`, … below `s + l.trips`. -/
def pieces (t : Fin 3) (c : Dev nD) (s : ℕ) (l : Scf.Loop 32) (ok : l.OK) (h : s + l.trips ≤ 8) : P F Unit :=
  Scf.Loop.for l ok ⟨⟩ fun k _ => pieceAt t c ⟨s + k.val, by have := k.isLt; omega⟩

theorem loop1_eq (c : Dev nD) : loop1 (F := F) c = pieces 2 c 2 k0_t1_loop k0_t1_ok (by decide) :=
  congrArg (Scf.Loop.for _ _ _) (funext fun k => funext fun _ => piece_congr (t := 2) (trip1 c k).1 (trip1 c k).2)
theorem loop2_eq (c : Dev nD) : loop2 (F := F) c = pieces 0 c 2 k0_t2_loop k0_t2_ok (by decide) :=
  congrArg (Scf.Loop.for _ _ _) (funext fun k => funext fun _ => piece_congr (t := 0) (trip2 c k).1 (trip2 c k).2)
theorem loop3_eq (c : Dev nD) : loop3 (F := F) c = pieces 1 c 2 k0_t3_loop k0_t3_ok (by decide) :=
  congrArg (Scf.Loop.for _ _ _) (funext fun k => funext fun _ => piece_congr (t := 1) (trip3 c k).1 (trip3 c k).2)
theorem loop4_eq (c : Dev nD) : loop4 (F := F) c = pieces 2 c 4 k0_t4_loop k0_t4_ok (by decide) :=
  congrArg (Scf.Loop.for _ _ _) (funext fun k => funext fun _ => piece_congr (t := 2) (trip4 c k).1 (trip4 c k).2)
theorem loop5_eq (c : Dev nD) : loop5 (F := F) c = pieces 0 c 4 k0_t5_loop k0_t5_ok (by decide) :=
  congrArg (Scf.Loop.for _ _ _) (funext fun k => funext fun _ => piece_congr (t := 0) (trip5 c k).1 (trip5 c k).2)
theorem loop6_eq (c : Dev nD) : loop6 (F := F) c = pieces 1 c 4 k0_t6_loop k0_t6_ok (by decide) :=
  congrArg (Scf.Loop.for _ _ _) (funext fun k => funext fun _ => piece_congr (t := 1) (trip6 c k).1 (trip6 c k).2)

/-- Transfer `x`'s start, the wait for its arrival here, the wait for its departure from here. -/
def sendAt (c : Dev nD) (x : Fin 9) : P F PUnit := (tl (til x)).send (ph x) x (par c x)
def recvdAt (x : Fin 9) : P F PUnit := (tl (til x)).recvd (ph x) x
def sentAt (x : Fin 9) : P F PUnit := (tl (til x)).sent (ph x) x

end Cert.Cube

end
-- ==== Proof.Cube.Held.lean ====
/-
What a device holds of the gathered-weights buffers, and the steps of the body that do not touch a semaphore.

`held t c a n q` is the share `q` of slots `[a, a + n)` of tile `t`'s buffer at device `c`, with each slot holding the
weights its number says (`gat`). A step that reads or fills slots is proved once here for any tile and slots.
-/
module

public import proofs.«01_k».proof.Proof.Cube.Tables
public import Idealize.ShloMosaic.Lib.Pipeline.Value

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev 𝒱₀ : Variants := Variants.none

/-- The weights each device starts with, and the other two operands of one device. -/
abbrev WV (F : FTy → Type) : Type := Dev nD → Vec F S4x512x1024 .bf16

/-! ## Contents -/

/-- Where entry `i` of a slot lies in the weights of the device the slot's weights come from. -/
def widx (T : Tile F) (i : (SB T.w).Idx) : S4x512x1024.Idx := fun a => match a with
  | ⟨0, _⟩ => ⟨(i 1).val, (i 1).isLt⟩
  | ⟨1, _⟩ => ⟨(i 2).val, (i 2).isLt⟩
  | ⟨2, _⟩ => ⟨T.lo + (i 3).val, lt_of_lt_of_le (Nat.add_lt_add_left (i 3).isLt _) T.hlo⟩

/-- What tile `t`'s buffer holds at device `c` in the end. -/
def gat (W : WV F) (t : Fin 3) (c : Dev nD) : Vec F (SB (tl (F := F) t).w) .bf16 := fun i => W (org t c (i 0).val) (widx (tl t) i)

variable (m : (ℓ : Loc nD τ sig) → Buf (Elt F) ℓ) (W : WV F)

/-- The buffer with those contents. -/
def final (t : Fin 3) (c : Dev nD) : Buf (Elt F) ((tl (F := F) t).buf.view.loc (c : Thread nD τ)) :=
  (tl (F := F) t).buf.view.write (Elt F) (m ((tl (F := F) t).buf.view.loc (c : Thread nD τ))) (gat W t c) Finset.univ

theorem read_final (t : Fin 3) (c : Dev nD) : (tl (F := F) t).buf.view.read (Elt F) (final m W t c) = gat W t c := View.read_write_univ _ _

/-- The indices of slots `[a, a + n)`. -/
def slots (w a n : ℕ) : Finset (SB w).Idx := Finset.univ.filter fun i => a ≤ (i 0).val ∧ (i 0).val < a + n

theorem mem_slots {w a n : ℕ} {i : (SB w).Idx} : i ∈ slots w a n ↔ a ≤ (i 0).val ∧ (i 0).val < a + n := by simp [slots]

theorem slotRect_set (w a n : ℕ) (h : a + n ≤ 8) : (slotRect w a n h).set = slots w a n := by
  ext i
  rw [Rect.mem_set_unit, mem_slots]
  refine ⟨fun h => h 0, fun h x => ?_⟩
  fin_cases x
  · exact h
  · exact ⟨Nat.zero_le _, (Nat.zero_add _).symm ▸ (i 1).isLt⟩
  · exact ⟨Nat.zero_le _, (Nat.zero_add _).symm ▸ (i 2).isLt⟩
  · exact ⟨Nat.zero_le _, (Nat.zero_add _).symm ▸ (i 3).isLt⟩

theorem slots_add (w a n n' : ℕ) : slots w a (n + n') = slots w a n ∪ slots w (a + n) n' := by
  ext i; rw [Finset.mem_union, mem_slots, mem_slots, mem_slots]; omega
theorem slots_disjoint (w a n n' : ℕ) : Disjoint (slots w a n) (slots w (a + n) n') :=
  Finset.disjoint_left.mpr fun i h h' => by rw [mem_slots] at h h'; omega
theorem slots_univ (w : ℕ) : slots w 0 8 = Finset.univ := Finset.eq_univ_of_forall fun i => by
  rw [mem_slots]; exact ⟨Nat.zero_le _, by have := (i 0).isLt; exact this⟩

/-! ## Ownership of slots -/

/-- Slots `[a, a + n)` with some contents. -/
def anys (t : Fin 3) (c : Dev nD) (a n : ℕ) (f : Buf (Elt F) ((tl (F := F) t).buf.view.loc (c : Thread nD τ))) (q : PosShare TreeShare) : sProp 𝕄 :=
  (tl (F := F) t).buf.view.loc (c : Thread nD τ) ↦[(tl (F := F) t).buf.view.setOn (slots _ a n)]{q} f
/-- Slots `[a, a + n)` holding their final contents. -/
def held (t : Fin 3) (c : Dev nD) (a n : ℕ) (q : PosShare TreeShare) : sProp 𝕄 := anys t c a n (final m W t c) q

instance anys_storable (t c a n f q) : BI.Storable (upEmb : UEmb _ 𝕄) (anys (F := F) t c a n f q) := by unfold anys; infer_instance
instance held_storable (t c a n q) : BI.Storable (upEmb : UEmb _ 𝕄) (held (F := F) m W t c a n q) := by unfold held; infer_instance

theorem anys_add (t : Fin 3) (c : Dev nD) (a n n' : ℕ) (f) (q : PosShare TreeShare) :
    anys (F := F) t c a (n + n') f q = iprop(anys t c a n f q ∗ anys t c (a + n) n' f q) := by
  have h : (tl (F := F) t).buf.view.setOn (slots (tl (F := F) t).w a (n + n'))
      = (tl (F := F) t).buf.view.setOn (slots _ a n) ∪ (tl (F := F) t).buf.view.setOn (slots _ (a + n) n') := by
    unfold View.setOn; rw [slots_add, Finset.map_union]
  have hd : Disjoint ((tl (F := F) t).buf.view.setOn (slots (tl (F := F) t).w a n)) ((tl (F := F) t).buf.view.setOn (slots _ (a + n) n')) :=
    (Finset.disjoint_map _).mpr (slots_disjoint _ _ _ _)
  unfold anys
  rw [h]
  exact BI.equiv_iff.mp ⟨(pointsTo_union hd).1, (pointsTo_union hd).2⟩

/-- The four shares every slot is held in: three to lend to the three phases' copies, one to read with. -/
def qs : Fin 4 → PosShare TreeShare := ![fullShare.left, fullShare.right.left, fullShare.right.right.left, fullShare.right.right.right]

theorem anys_share (t : Fin 3) (c : Dev nD) (a n : ℕ) (f) :
    anys (F := F) t c a n f fullShare = iprop(anys t c a n f (qs 0) ∗ anys t c a n f (qs 1) ∗ anys t c a n f (qs 2) ∗ anys t c a n f (qs 3)) := by
  have h (q : PosShare TreeShare) : anys (F := F) t c a n f q = iprop(anys t c a n f q.left ∗ anys t c a n f q.right) :=
    BI.equiv_iff.mp ⟨(pointsTo_share (PosShare.mem_left_op_right q)).1, (pointsTo_share (PosShare.mem_left_op_right q)).2⟩
  rw [h fullShare, h fullShare.right, h fullShare.right.right]; rfl

/-- Contents that read as they should may be renamed. -/
theorem anys_congr (t : Fin 3) (c : Dev nD) (a n : ℕ) (f) (q : PosShare TreeShare)
    (h : ∀ i ∈ slots _ a n, (tl (F := F) t).buf.view.read (Elt F) f i = gat W t c i) : anys (F := F) t c a n f q = held m W t c a n q := by
  unfold held anys
  refine pointsTo_congr fun i hi => ?_
  obtain ⟨x, hx, rfl⟩ := Finset.mem_map.mp hi
  have h1 := h x hx
  rw [← read_final m W t c] at h1
  rw [View.read_apply, View.read_apply] at h1
  exact (cast_inj _).mp h1

theorem anys_univ (t : Fin 3) (c : Dev nD) (f) (hw : (tl (F := F) t).buf.view.set = Finset.univ) :
    anys (F := F) t c 0 8 f fullShare = ((tl (F := F) t).buf.view.loc (c : Thread nD τ) ↦{fullShare} f : sProp 𝕄) := by
  unfold anys; rw [slots_univ, View.setOn_univ, hw]

/-! ## Reading and adding -/

abbrev whl (c : Dev nD) (b : Ref sig .tc) (f : Buf (Elt F) ((c : Thread nD τ).loc b)) : sProp 𝕄 := ((c : Thread nD τ).loc b) ↦{fullShare} f

abbrev wpb (c : Dev nD) {α : Type} (p : P F α) (Q : α → sProp 𝕄) : sProp 𝕄 := wp frame (wpE (defs₀ (F := F)) 𝒱₀ (c : Thread nD τ) none) Set.univ p Q

/-- The result buffer after one accumulation. -/
def accS {s : Shape} (rO : Rect S2048x1024) (pay : Vec F rO.shape .bf16 → Vec F S2048x512 .bf16 → Vec F s .bf16 → Vec F rO.shape .bf16)
    (x : Vec F S2048x512 .bf16) (b : Vec F s .bf16) (f : Vec F S2048x1024 .bf16) : Vec F S2048x1024 .bf16 :=
  (oM.access rO).write (Elt F) f (pay (oM.view.readAt (Elt F) rO.toLoadRect f) x b) Finset.univ

theorem readX (f : Vec F S2048x512 .bf16) : xM.view.readAt (Elt F) rX.toLoadRect f = f :=
  Memref.readAt_unit_zero (Elt F) cc0_stg0_0 (funext fun a => by fin_cases a <;> rfl) _ f

theorem wp_accOp (c : Dev nD) {s : Shape} {M : Memref sig .tc .vmem s .bf16} {r : LoadRect s} {hr : M.view.LoadsAt r} {rO : Rect S2048x1024}
    {hO : oM.view.LoadsAt rO.toLoadRect} {hS : (oM.access rO).Stores Finset.univ}
    {pay : Vec F rO.shape .bf16 → Vec F S2048x512 .bf16 → Vec F r.shape .bf16 → Vec F rO.shape .bf16}
    {S : Finset (Idx (M.view.loc (c : Thread nD τ)))} {q : PosShare TreeShare} {f : Buf (Elt F) (M.view.loc (c : Thread nD τ))}
    (x : Vec F S2048x512 .bf16) (o : Vec F S2048x1024 .bf16) (hs : M.view.setOn r.set ⊆ S)
    {α : Type} {k : PUnit → P F α} {Q : α → sProp 𝕄} :
    iprop((M.view.loc (c : Thread nD τ) ↦[S]{q} f) ∗ whl c cc0_stg0_0 x ∗ whl c cc0_stg3_0 o)
      ⊢ iprop((((M.view.loc (c : Thread nD τ) ↦[S]{q} f) ∗ whl c cc0_stg0_0 x ∗ whl c cc0_stg3_0 (accS rO pay x (M.view.readAt (Elt F) r f) o)) -∗ wpb c (k ⟨⟩) Q)
        -∗ wpb c (accOp M r hr rO hO hS pay >>= k) Q) := by
  unfold accOp
  simp only [Prog.bind_op, Prog.bind_ret]
  iintro ⟨Hb, Hx, Ho⟩ Hk
  iapply (wp_load 𝒱₀ (c : Thread nD τ) none Set.univ (m := oM) (Finset.subset_univ _)) $$ Ho; iintro Ho
  iapply (wp_load 𝒱₀ (c : Thread nD τ) none Set.univ (m := xM) (Finset.subset_univ _)) $$ Hx; iintro Hx
  rw [readX]
  iapply (wp_load 𝒱₀ (c : Thread nD τ) none Set.univ (m := M) hs) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  iapply Hk
  isplitl [Hb]; · iexact Hb
  isplitl [Hx]; · iexact Hx
  iexact Ho

/-- Expert `j`'s weights in slot `k`. -/
abbrev rP (w : ℕ) (k : Fin 8) (j : Fin 4) : Rect (SB w) := Rect.unit (s := SB w) ![k.val, j.val, 0, 0] (SP w).size (inbP k.val j.val k.isLt j.isLt)

theorem rP_subset (w : ℕ) (k : Fin 8) (j : Fin 4) (a n : ℕ) (ha : a ≤ k.val) (hn : k.val < a + n) : (rP w k j).toLoadRect.set ⊆ slots w a n := fun i hi => by
  rw [show (rP w k j).toLoadRect.set = (rP w k j).set from rfl, Rect.mem_set_unit] at hi
  have h0 : k.val ≤ (i 0).val ∧ (i 0).val < k.val + 1 := hi 0
  rw [mem_slots]; omega

/-- The group's selection columns read from the selections. -/
def selAt (sel : Vec F S8x2048x128 .bf16) (d : Dev nD) : Vec F S1x2048x128 .bf16 :=
  selM.view.readAt (Elt F) (Rect.unit (s := S8x2048x128) ![d.val, 0, 0] S1x2048x128.size (inbSel d)).toLoadRect sel

/-- The result buffer after adding expert `j` of slot `k` of tile `t`. -/
def expS (t : Fin 3) (c : Dev nD) (sel : Vec F S8x2048x128 .bf16) (x : Vec F S2048x512 .bf16) (k : Fin 8) (j : Fin 4) (f : Vec F S2048x1024 .bf16) : Vec F S2048x1024 .bf16 :=
  accS (s := SP (tl (F := F) t).w) (tl (F := F) t).rO ((tl (F := F) t).add (selAt sel (org t c k.val)) j) x (fun i => gat W t c ((rP _ k j).emb i)) f
/-- The result buffer after adding the four experts of slot `k` of tile `t`. -/
def slotS (t : Fin 3) (c : Dev nD) (sel : Vec F S8x2048x128 .bf16) (x : Vec F S2048x512 .bf16) (k : Fin 8) (f : Vec F S2048x1024 .bf16) : Vec F S2048x1024 .bf16 :=
  expS W t c sel x k 3 (expS W t c sel x k 2 (expS W t c sel x k 1 (expS W t c sel x k 0 f)))

theorem wp_exp (t : Fin 3) (c : Dev nD) (sel : Vec F S8x2048x128 .bf16) (x : Vec F S2048x512 .bf16) (k : Fin 8) (j : Fin 4) (f : Vec F S2048x1024 .bf16)
    (a n : ℕ) (q : PosShare TreeShare) (ha : a ≤ k.val) (hn : k.val < a + n) {hb} {α : Type} {kk : PUnit → P F α} {Q : α → sProp 𝕄} :
    iprop(held m W t c a n q ∗ whl c cc0_stg0_0 x ∗ whl c cc0_stg3_0 f)
      ⊢ iprop(((held m W t c a n q ∗ whl c cc0_stg0_0 x ∗ whl c cc0_stg3_0 (expS W t c sel x k j f)) -∗ wpb c (kk ⟨⟩) Q)
        -∗ wpb c ((tl t).acc (selAt sel (org t c k.val)) j ![k.val, j.val, 0, 0] hb >>= kk) Q) := by
  have h : (tl (F := F) t).buf.view.readAt (Elt F) (rP (tl (F := F) t).w k j).toLoadRect (final m W t c) = fun i => gat W t c ((rP _ k j).emb i) :=
    funext fun i => congrFun (read_final m W t c) _
  have e : expS W t c sel x k j f = accS (s := SP (tl (F := F) t).w) (tl (F := F) t).rO ((tl (F := F) t).add (selAt sel (org t c k.val)) j) x
      ((tl (F := F) t).buf.view.readAt (Elt F) (rP (tl (F := F) t).w k j).toLoadRect (final m W t c)) f :=
    congrArg (fun b => accS (s := SP (tl (F := F) t).w) (tl (F := F) t).rO ((tl (F := F) t).add (selAt sel (org t c k.val)) j) x b f) h.symm
  rw [e]
  unfold held anys Tile.acc
  exact wp_accOp c x f (Finset.map_subset_map.mpr (rP_subset _ k j a n ha hn))

theorem wp_piece (t : Fin 3) (c : Dev nD) (sel : Vec F S8x2048x128 .bf16) (x : Vec F S2048x512 .bf16) (k : Fin 8) (f : Vec F S2048x1024 .bf16)
    (a n : ℕ) (q : PosShare TreeShare) (ha : a ≤ k.val) (hn : k.val < a + n) {α : Type} {kk : PUnit → P F α} {Q : α → sProp 𝕄} :
    iprop(held m W t c a n q ∗ whl c cc0_stg0_0 x ∗ whl c cc0_stg1_0 sel ∗ whl c cc0_stg3_0 f)
      ⊢ iprop(((held m W t c a n q ∗ whl c cc0_stg0_0 x ∗ whl c cc0_stg1_0 sel ∗ whl c cc0_stg3_0 (slotS W t c sel x k f)) -∗ wpb c (kk ⟨⟩) Q)
        -∗ wpb c (pieceAt t c k >>= kk) Q) := by
  unfold pieceAt Tile.piece
  simp only [Prog.bind_op, bind_assoc]
  iintro ⟨Hb, Hx, Hs, Ho⟩ Hk
  iapply (wp_load 𝒱₀ (c : Thread nD τ) none Set.univ (m := selM) (Finset.subset_univ _)) $$ Hs; iintro Hs
  iapply (wp_exp m W t c sel x k 0 f a n q ha hn) $$ [Hb Hx Ho]
  · isplitl [Hb]; · iexact Hb
    isplitl [Hx] <;> iassumption
  iintro H
  iapply (wp_exp m W t c sel x k 1 _ a n q ha hn) $$ H
  iintro H
  iapply (wp_exp m W t c sel x k 2 _ a n q ha hn) $$ H
  iintro H
  iapply (wp_exp m W t c sel x k 3 _ a n q ha hn) $$ H
  iintro ⟨Hb, Hx, Ho⟩
  iapply Hk
  isplitl [Hb]; · iexact Hb
  isplitl [Hx]; · iexact Hx
  isplitl [Hs]; · iexact Hs
  iexact Ho

/-- The result buffer after slots `s`, …, `s + n - 1` of tile `t`. -/
def slotsS (t : Fin 3) (c : Dev nD) (sel : Vec F S8x2048x128 .bf16) (x : Vec F S2048x512 .bf16) (s : ℕ) : ℕ → Vec F S2048x1024 .bf16 → Vec F S2048x1024 .bf16
  | 0, f => f
  | n + 1, f => slotS W t c sel x ⟨(s + n) % 8, Nat.mod_lt _ (by decide)⟩ (slotsS t c sel x s n f)

theorem wp_pieces (t : Fin 3) (c : Dev nD) (sel : Vec F S8x2048x128 .bf16) (x : Vec F S2048x512 .bf16) (f : Vec F S2048x1024 .bf16)
    (s n a n' : ℕ) (l : Scf.Loop 32) (ok : l.OK) (h : s + l.trips ≤ 8) (hl : l.trips = n) (ha : a ≤ s) (hn : s + n ≤ a + n') (q : PosShare TreeShare) {α : Type} {kk : Unit → P F α} {Q : α → sProp 𝕄} :
    iprop(held m W t c a n' q ∗ whl c cc0_stg0_0 x ∗ whl c cc0_stg1_0 sel ∗ whl c cc0_stg3_0 f)
      ⊢ iprop(((held m W t c a n' q ∗ whl c cc0_stg0_0 x ∗ whl c cc0_stg1_0 sel ∗ whl c cc0_stg3_0 (slotsS W t c sel x s n f)) -∗ wpb c (kk ⟨⟩) Q)
        -∗ wpb c (pieces t c s l ok h >>= kk) Q) := by
  subst hl
  show iprop(held m W t c a n' q ∗ whl c cc0_stg0_0 x ∗ whl c cc0_stg1_0 sel ∗ whl c cc0_stg3_0 (slotsS W t c sel x s 0 f)) ⊢ _
  unfold pieces Scf.Loop.for
  iintro H Hk
  iapply (Scf.wp_for_bind frame (wpE (defs₀ (F := F)) 𝒱₀ (c : Thread nD τ) none) Set.univ l.lb l.ub l.st ok ⟨⟩ _
    (fun i _ => iprop(held m W t c a n' q ∗ whl c cc0_stg0_0 x ∗ whl c cc0_stg1_0 sel ∗ whl c cc0_stg3_0 (slotsS W t c sel x s i f)))
    (fun i _ => by
      have hi : s + i.val < 8 := lt_of_lt_of_le (Nat.add_lt_add_left i.isLt s) h
      have hp := wp_piece m W t c sel x ⟨s + i.val, hi⟩ (slotsS W t c sel x s i.val f) a n' q (ha.trans (Nat.le_add_right _ _))
        (lt_of_lt_of_le (Nat.add_lt_add_left i.isLt s) hn) (kk := fun _ => .ret PUnit.unit)
        (Q := fun _ => iprop(held m W t c a n' q ∗ whl c cc0_stg0_0 x ∗ whl c cc0_stg1_0 sel ∗ whl c cc0_stg3_0 (slotsS W t c sel x s (i.val + 1) f)))
      rw [show (pieceAt (F := F) t c ⟨s + i.val, hi⟩ >>= fun _ => Prog.ret PUnit.unit) = pieceAt t c ⟨s + i.val, hi⟩ from Prog.bind_pure _] at hp
      have e : slotsS W t c sel x s (i.val + 1) f = slotS W t c sel x ⟨s + i.val, hi⟩ (slotsS W t c sel x s i.val f) :=
        congrArg (fun y => slotS W t c sel x y (slotsS W t c sel x s i.val f)) (Fin.ext (Nat.mod_eq_of_lt hi))
      rw [e] at hp ⊢
      iintro H
      iapply hp $$ H
      iintro H
      unfold wpb
      rw [wp_ret]
      imodintro
      iexact H)) $$ H
  iintro %_ H
  iapply Hk
  iexact H

/-! ## Staging the device's own weights, and its own experts -/

theorem slot0_apply (t : Fin 3) (c : Dev nD) (x : (SN 1 (tl (F := F) t).w).Idx) :
    (tl (F := F) t).slot0 (wM.view.readAt (Elt F) (tl (F := F) t).rW.toLoadRect (W c)) x
      = gat W t c ((slotRect (tl (F := F) t).w 0 1 (by decide)).emb x) := by
  have h0 : (x 0).val = 0 := Nat.lt_one_iff.mp (x 0).isLt
  unfold Tile.slot0
  rw [shapeCast_self, shapeCast_addUnit_apply]
  unfold gat
  have ho : org t c ((slotRect (tl (F := F) t).w 0 1 (by decide)).emb x 0).val = c := by
    have e : ((slotRect (tl (F := F) t).w 0 1 (by decide)).emb x 0).val = 0 := by
      show 0 + 1 * (x 0).val = 0
      rw [h0]
    rw [e]; exact org_zero t c
  rw [ho]
  show W c _ = W c _
  refine congrArg (W c) (funext fun a => Fin.ext ?_)
  fin_cases a
  · rfl
  · rfl
  · show (tl (F := F) t).lo + 1 * (x 3).val = (tl (F := F) t).lo + (0 + 1 * (x 3).val)
    omega

theorem le01 : 0 + 1 ≤ 8 := by decide

theorem wp_stage (t : Fin 3) (c : Dev nD) (f) {α : Type} {kk : PUnit → P F α} {Q : α → sProp 𝕄} :
    iprop(anys (F := F) t c 0 1 f fullShare ∗ whl c cc0_stg2_0 (W c))
      ⊢ iprop(((held m W t c 0 1 fullShare ∗ whl c cc0_stg2_0 (W c)) -∗ wpb c (kk ⟨⟩) Q) -∗ wpb c ((tl t).stage >>= kk) Q) := by
  have hS : (tl (F := F) t).buf.view.setOn (slotRect (tl (F := F) t).w 0 1 le01).set ⊆ (tl (F := F) t).buf.view.setOn (slots _ 0 1) := by
    rw [slotRect_set]
  have hS' : (((tl (F := F) t).buf.access (slotRect (tl (F := F) t).w 0 1 le01)).setOn Finset.univ : Finset (tl (F := F) t).buf.view.ty.Idx) ⊆ (tl (F := F) t).buf.view.setOn (slots _ 0 1) := by
    rw [View.setOn_univ]
    exact (View.set_slice _ _).trans_subset hS
  have hc := anys_congr m W t c 0 1 (((tl (F := F) t).buf.access (slotRect (tl (F := F) t).w 0 1 le01)).write (Elt F) f
      ((tl (F := F) t).slot0 (wM.view.readAt (Elt F) (tl (F := F) t).rW.toLoadRect (W c))) Finset.univ) fullShare (fun i hi => by
    rw [← slotRect_set _ 0 1 le01, ← Rect.map_emb_univ] at hi
    obtain ⟨x, _, rfl⟩ := Finset.mem_map.mp hi
    exact (View.read_slice_write_emb _ _ _ (Finset.mem_univ x)).trans (slot0_apply W t c x))
  unfold Tile.stage
  simp only [Prog.bind_op, Prog.bind_ret]
  rw [← hc]
  unfold anys
  iintro ⟨Hb, Hw⟩ Hk
  iapply (wp_load 𝒱₀ (c : Thread nD τ) none Set.univ (m := wM) (Finset.subset_univ _)) $$ Hw; iintro Hw
  iapply (wp_load 𝒱₀ (c : Thread nD τ) none Set.univ (m := (tl t).buf) hS) $$ Hb; iintro Hb
  iapply (wp_store 𝒱₀ (c : Thread nD τ) none Set.univ (m := (tl t).buf) (r := slotRect _ 0 1 le01) (Mk := Finset.univ) hS') $$ Hb; iintro Hb
  iapply Hk
  isplitl [Hb] <;> iassumption

/-- Expert `j` of a device's own weights. -/
def ownP (w : Vec F S4x512x1024 .bf16) (j : Fin 4) : Vec F S1x512x1024 .bf16 :=
  wM.view.readAt (Elt F) (Rect.unit (s := S4x512x1024) ![j.val, 0, 0] S1x512x1024.size (inbOwn j)).toLoadRect w
/-- The result buffer after adding the device's own expert `j`. -/
def ownE (c : Dev nD) (sel : Vec F S8x2048x128 .bf16) (x : Vec F S2048x512 .bf16) (j : Fin 4) (f : Vec F S2048x1024 .bf16) : Vec F S2048x1024 .bf16 :=
  accS rAll (addAll (selAt sel c) j) x (ownP (W c) j) f
/-- The result buffer after zeroing it and adding the device's own four experts. -/
def ownS (c : Dev nD) (sel : Vec F S8x2048x128 .bf16) (x : Vec F S2048x512 .bf16) : Vec F S2048x1024 .bf16 :=
  ownE W c sel x 3 (ownE W c sel x 2 (ownE W c sel x 1 (ownE W c sel x 0 (k0_pay58 (F := F)))))

theorem wp_ownAcc (c : Dev nD) (sel : Vec F S8x2048x128 .bf16) (x : Vec F S2048x512 .bf16) (j : Fin 4) (f : Vec F S2048x1024 .bf16)
    {α : Type} {kk : PUnit → P F α} {Q : α → sProp 𝕄} :
    iprop(whl c cc0_stg2_0 (W c) ∗ whl c cc0_stg0_0 x ∗ whl c cc0_stg3_0 f)
      ⊢ iprop(((whl c cc0_stg2_0 (W c) ∗ whl c cc0_stg0_0 x ∗ whl c cc0_stg3_0 (ownE W c sel x j f)) -∗ wpb c (kk ⟨⟩) Q)
        -∗ wpb c (ownAcc (selAt sel c) j >>= kk) Q) := by
  unfold ownAcc ownE ownP
  exact wp_accOp (s := S4x512x1024) (M := wM) (S := Finset.univ) (q := fullShare) (f := W c) (rO := rAll) (pay := addAll (selAt sel c) j)
    (r := (Rect.unit (s := S4x512x1024) ![j.val, 0, 0] S1x512x1024.size (inbOwn j)).toLoadRect) c x f (Finset.subset_univ _)

theorem selAt_of (c : Dev nD) (sel : Vec F S8x2048x128 .bf16) {so : Fin 3 → ℕ} {hs : ∀ a, so a + S1x2048x128.size a ≤ S8x2048x128.size a}
    (h : so = ![c.val, 0, 0]) :
    selM.view.readAt (Elt F) (Rect.unit (s := S8x2048x128) so S1x2048x128.size hs).toLoadRect sel = selAt sel c := by subst h; rfl

theorem zero_own (f : Vec F S2048x1024 .bf16) : (oM.access rAll).write (Elt F) f (k0_pay58 (F := F)) Finset.univ = k0_pay58 (F := F) :=
  Memref.write_access_unit_zero_univ (Elt F) cc0_stg3_0 (funext fun a => by fin_cases a <;> rfl) _ f _

theorem wp_own (c : Dev nD) (sel : Vec F S8x2048x128 .bf16) (x : Vec F S2048x512 .bf16) (f : Vec F S2048x1024 .bf16)
    {α : Type} {kk : PUnit → P F α} {Q : α → sProp 𝕄} :
    iprop(whl c cc0_stg2_0 (W c) ∗ whl c cc0_stg0_0 x ∗ whl c cc0_stg1_0 sel ∗ whl c cc0_stg3_0 f)
      ⊢ iprop(((whl c cc0_stg2_0 (W c) ∗ whl c cc0_stg0_0 x ∗ whl c cc0_stg1_0 sel ∗ whl c cc0_stg3_0 (ownS W c sel x)) -∗ wpb c (kk ⟨⟩) Q)
        -∗ wpb c (own c >>= kk) Q) := by
  have hs : selM.view.readAt (Elt F) (Rect.unit (s := S8x2048x128) (k0_off1 c) S1x2048x128.size (k0_off1_inb c)).toLoadRect sel = selAt sel c :=
    selAt_of c sel (off1_eq c)
  unfold own
  simp only [Prog.bind_op, bind_assoc]
  iintro ⟨Hw, Hx, Hs, Ho⟩ Hk
  iapply (wp_load 𝒱₀ (c : Thread nD τ) none Set.univ (m := oM) (Finset.subset_univ _)) $$ Ho; iintro Ho
  iapply (wp_store 𝒱₀ (c : Thread nD τ) none Set.univ (m := oM) (r := rAll) (Mk := Finset.univ) (Finset.subset_univ _)) $$ Ho; iintro Ho
  rw [zero_own]
  iapply (wp_load 𝒱₀ (c : Thread nD τ) none Set.univ (m := selM) (Finset.subset_univ _)) $$ Hs; iintro Hs
  rw [hs]
  iapply (wp_ownAcc W c sel x 0 _) $$ [Hw Hx Ho]
  · isplitl [Hw]; · iexact Hw
    isplitl [Hx] <;> iassumption
  iintro H
  iapply (wp_ownAcc W c sel x 1 _) $$ H
  iintro H
  iapply (wp_ownAcc W c sel x 2 _) $$ H
  iintro H
  iapply (wp_ownAcc W c sel x 3 _) $$ H
  iintro ⟨Hw, Hx, Ho⟩
  iapply Hk
  isplitl [Hw]; · iexact Hw
  isplitl [Hx]; · iexact Hx
  isplitl [Hs]; · iexact Hs
  iexact Ho

end Cert.Cube

end
-- ==== Proof.Cube.Sched.lean ====
/-
The semaphores of the all-gather and what passes through them.

A device has a barrier cell and, for each of its nine transfers, a send cell and a receive cell; every cell is used
for one round. The barrier's duty `i` is paid by the neighbour along direction `i`, who hands over the three runs of
slots that are going to be written there by the transfers along that direction; so nothing is ever written that its
owner has not handed over. A receive cell hands its device the run of slots that arrived, holding the weights it
should; a send cell hands back the share of the slots that was lent to the copy.
-/
module

public import proofs.«01_k».proof.Proof.Cube.Held

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's cells: `none` the barrier, `(true, x)` transfer `x`'s send cell, `(false, x)` its receive cell. -/
abbrev Cid : Type := Option (Bool × Fin 9)

def semOf : Cid → SemLoc sig
  | none => .reg barS
  | some (true, x) => .dma (semAt cc0_scratch3 x)
  | some (false, x) => .dma (semAt cc0_scratch4 x)

set_option maxRecDepth 8000 in
theorem semOf_injective : Function.Injective semOf := by decide

/-- Which cell a semaphore is. -/
def code : SemLoc sig → Option Cid := Function.partialInv semOf
theorem code_semOf (k : Cid) : code (semOf k) = some k := Function.partialInv_left semOf_injective k
theorem code_none {s : SemLoc sig} (h : ∀ k, semOf k ≠ s) : code s = none := by
  unfold code Function.partialInv; rw [dif_neg]; rintro ⟨k, hk⟩; exact h k hk

abbrev cell (c : Dev nD) (k : Cid) : GSem nD τ sig := ((c : Thread nD τ), semOf k)
theorem cell_injective : Function.Injective fun ck : Dev nD × Cid => cell ck.1 ck.2 := by
  rintro ⟨c, k⟩ ⟨c', k'⟩ h
  have h1 : c = c' := congrArg (fun g : GSem nD τ sig => g.1.1) h
  have h2 : k = k' := semOf_injective (congrArg Prod.snd h)
  rw [h1, h2]
theorem cell_eq_iff {c c' : Dev nD} {k k' : Cid} : Iff (cell c k = cell c' k') (c = c' ∧ k = k') :=
  ⟨fun h => Prod.ext_iff.mp (cell_injective (a₁ := (c, k)) (a₂ := (c', k')) h), fun h => by rw [h.1, h.2]⟩

abbrev bar (c : Dev nD) : GSem nD τ sig := cell c none
abbrev snd (c : Dev nD) (x : Fin 9) : GSem nD τ sig := cell c (some (true, x))
abbrev rcv (c : Dev nD) (x : Fin 9) : GSem nD τ sig := cell c (some (false, x))

/-! ## Amounts -/

def bufs : Fin 3 → Ref sig .tc := ![cc0_scratch0, cc0_scratch1, cc0_scratch2]
def wd : Fin 3 → ℕ := ![384, 384, 256]
/-- What transfer `x` credits its semaphores with. -/
def NN (x : Fin 9) : ℕ := (bufs (til x)).dmaCredit (SN (run (ph x)) (wd (til x))) .bf16
theorem NN_dst (x : Fin 9) : ((tl (F := F) (til x)).dst (ph x)).view.dmaCredit = NN x := by fin_cases x <;> rfl
theorem NN_src (x : Fin 9) : ((tl (F := F) (til x)).src (ph x)).view.dmaCredit = NN x := by fin_cases x <;> rfl
theorem numel_pos (x : Fin 9) : 0 < (SN (run (ph x)) (wd (til x))).numel := by
  fin_cases x <;> exact Nat.pos_of_ne_zero (by decide)
theorem NN_pos (x : Fin 9) : 0 < NN x := sig.dmaCredit_pos _ _ _ _ _ (numel_pos x)

/-! ## The schedule -/

variable (m : (ℓ : Loc nD τ sig) → Buf (Elt F) ℓ) (W : WV F)

/-- The slots transfer `x` lands in at device `c`, with any contents. -/
def land (c : Dev nD) (x : Fin 9) : sProp 𝕄 := iprop(∃ f, anys (F := F) (til x) c (run (ph x)) (run (ph x)) f fullShare)
/-- What the neighbour along direction `i` hands device `c` at the barrier. -/
def barPay (c : Dev nD) (i : Fin 3) : sProp 𝕄 := iprop(land (nb c i) (via i 0) ∗ land (nb c i) (via i 1) ∗ land (nb c i) (via i 2))
def rcvPay (c : Dev nD) (x : Fin 9) : sProp 𝕄 := held m W (til x) c (run (ph x)) (run (ph x)) fullShare
def sndPay (c : Dev nD) (x : Fin 9) : sProp 𝕄 := held m W (til x) c 0 (run (ph x)) (qs (ph x).castSucc)

def dutiesK : Cid → Finset (Fin 3) | none => Finset.univ | some _ => {0}
def amountK : Cid → ℕ | none => 1 | some (_, x) => NN x
def payK (c : Dev nD) : Cid → Fin 3 → sProp 𝕄
  | none, i => barPay c i
  | some (true, x), _ => sndPay m W c x
  | some (false, x), _ => rcvPay m W c x

instance land_storable (c : Dev nD) (x : Fin 9) : BI.Storable (upEmb : UEmb _ 𝕄) (land (F := F) c x) := by unfold land; infer_instance
instance payK_storable (c : Dev nD) (k : Cid) (i : Fin 3) : BI.Storable (upEmb : UEmb _ 𝕄) (payK m W c k i) := by
  rcases k with _ | ⟨_ | _, x⟩
  · show BI.Storable _ (barPay (F := F) c i); unfold barPay; infer_instance
  · show BI.Storable _ (rcvPay m W c x); unfold rcvPay; infer_instance
  · show BI.Storable _ (sndPay m W c x); unfold sndPay; infer_instance

/-- One round; a cell's duties, amounts and payloads by which cell it is. -/
def rd : Rounds.Schedule (GSem nD τ sig) (Fin 3) 𝕄 where
  duties g r := if r = 0 ∧ g.1.2 = .tc then (code g.2).elim ∅ dutiesK else ∅
  unitless _ := False
  amount g _ _ := (code g.2).elim 1 amountK
  payload g _ d := (code g.2).elim iprop(emp) (fun k => payK m W g.1.1 k d)
  amount_pos g _ _ _ := by
    rcases code g.2 with _ | _ | ⟨b, x⟩
    · exact Nat.one_pos
    · exact Nat.one_pos
    · exact NN_pos x

instance rd_storable (g : GSem nD τ sig) (r : ℕ) (d : Fin 3) : BI.Storable (upEmb : UEmb _ 𝕄) ((rd (F := F) m W).payload g r d) := by
  show BI.Storable upEmb ((code g.2).elim iprop(emp) (fun k => payK m W g.1.1 k d))
  rcases code g.2 with _ | k
  · show BI.Storable _ iprop(emp); infer_instance
  · exact payK_storable m W _ _ _

theorem rd_duties (c : Dev nD) (k : Cid) : (rd (F := F) m W).duties (cell c k) 0 = dutiesK k := by
  dsimp only [rd]; rw [if_pos ⟨rfl, rfl⟩, code_semOf]; rfl
theorem rd_later (g : GSem nD τ sig) : ∀ r, 1 ≤ r → (rd (F := F) m W).duties g r = ∅ :=
  fun r hr => by dsimp only [rd]; rw [if_neg fun h => by omega]
theorem rd_amount (c : Dev nD) (k : Cid) (d : Fin 3) : (rd (F := F) m W).amount (cell c k) 0 d = amountK k := by
  dsimp only [rd]; rw [code_semOf]; rfl
theorem rd_payload (c : Dev nD) (k : Cid) (d : Fin 3) : (rd (F := F) m W).payload (cell c k) 0 d = payK m W c k d := by
  dsimp only [rd]; rw [code_semOf]; rfl
theorem expect_bar (c : Dev nD) : (rd (F := F) m W).expect (bar c) 0 = 3 := by
  unfold Schedule.expect Schedule.amountOf
  rw [rd_duties, Finset.sum_congr rfl fun d _ => rd_amount m W c none d]; rfl
theorem expect_dma (c : Dev nD) (b : Bool) (x : Fin 9) : (rd (F := F) m W).expect (cell c (some (b, x))) 0 = NN x := by
  unfold Schedule.expect Schedule.amountOf
  rw [rd_duties, Finset.sum_congr rfl fun d _ => rd_amount m W c _ d]; exact Finset.sum_singleton _ _
theorem rest_bar (c : Dev nD) : bigSep ((rd (F := F) m W).duties (bar c) 0 \ ∅) (fun d => (rd (F := F) m W).payload (bar c) 0 d)
    = iprop(barPay c 0 ∗ barPay c 1 ∗ barPay c 2) := by
  rw [Finset.sdiff_empty, rd_duties]
  exact (bigSep_congr fun d _ => rd_payload m W c none d).trans (bigSep_univ_eq_bigSepL [0, 1, 2] (by decide) (by decide) _)
theorem rest_dma (c : Dev nD) (b : Bool) (x : Fin 9) :
    bigSep ((rd (F := F) m W).duties (cell c (some (b, x))) 0 \ ∅) (fun d => (rd (F := F) m W).payload (cell c (some (b, x))) 0 d)
      = payK m W c (some (b, x)) 0 := by
  rw [Finset.sdiff_empty, rd_duties]
  exact (bigSep_congr fun d _ => rd_payload m W c _ d).trans bigSep_singleton

/-! ## Debts and levels -/

/-- What a device owes, the next payment first. -/
def owe : List (GSem nD τ sig × ℕ) → CellTallies nD τ sig Unit
  | [] => 0
  | p :: l => owe l + tallyAt p.1 () p.2

theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    unfold owe at h
    rw [Pi.add_apply, Finsupp.add_apply, tallyAt_apply] at h
    by_cases hg : g = p.1
    · exact ⟨p, List.mem_cons_self, hg.symm⟩
    · rw [if_neg fun h' => hg h'.1, Nat.add_zero] at h
      obtain ⟨p', hp, e⟩ := ih h
      exact ⟨p', List.mem_cons_of_mem _ hp, e⟩

/-- The receive credits owed for the transfers `l`, and what a device owes at launch. -/
def debt (c : Dev nD) (l : List (Fin 9)) : List (GSem nD τ sig × ℕ) := l.map fun x => (rcv (par c x) x, NN x)
def order : List (Fin 9) := [0, 3, 6, 7, 1, 4, 8, 2, 5]
def debts (c : Dev nD) : List (GSem nD τ sig × ℕ) := (bar (nb c 0), 1) :: (bar (nb c 1), 1) :: (bar (nb c 2), 1) :: debt c order
def O₀ (c : Dev nD) : CellTallies nD τ sig Unit := owe (debts c)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
def lvK : Cid → ℕ | none => 1 | some (true, _) => 0 | some (false, x) => 2 + (ph x).val
/-- Barriers at 1, receive cells above by phase, everything else at 0. -/
def lv (g : GSem nD τ sig) (_ : Unit) : ℕ := (code g.2).elim 0 lvK
theorem lv_cell (c : Dev nD) (k : Cid) (u : Unit) : lv (cell c k) u = lvK k := by unfold lv; rw [code_semOf]; rfl

theorem mayWait (c : Dev nD) (sm : SemLoc sig) (l : List (GSem nD τ sig × ℕ)) (n : ℕ) (hsm : lv ((c : Thread nD τ), sm) () ≤ n)
    (hl : ∀ p ∈ l, p.1.1.2 = .tc ∧ n < lv p.1 ()) : (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact hsm)
    (fun g u hg => by
      obtain ⟨p, hp, rfl⟩ := owe_pos hg
      exact (hl p hp).2)

theorem debt_lv (c : Dev nD) (l : List (Fin 9)) (n : ℕ) (h : ∀ x ∈ l, n < 2 + (ph x).val) : ∀ p ∈ debt c l, p.1.1.2 = .tc ∧ n < lv p.1 () := fun p hp => by
  obtain ⟨x, hx, rfl⟩ := List.mem_map.mp hp
  exact ⟨rfl, by rw [lv_cell]; exact h x hx⟩

/-! ## Invariants and marks -/

def records (K : Dev nD × Cid → ℕ) : sProp 𝕄 :=
  iprop((bigSep Finset.univ fun ck : Dev nD × Cid => cellInv ER (rd m W) (K ck) (cell ck.1 ck.2))
    ∗ bigSep Finset.univ fun ck : Dev nD × Cid => reached ER (cell ck.1 ck.2) 0)

instance records_persistent (K : Dev nD × Cid → ℕ) : BI.Persistent (records m W K) := by unfold records; infer_instance

theorem rec_inv (K : Dev nD × Cid → ℕ) (c : Dev nD) (k : Cid) : records m W K ⊢ cellInv ER (rd m W) (K (c, k)) (cell c k) := by
  unfold records
  exact sep_elim_left.trans (bigSep_elim (Finset.mem_univ (c, k)))
theorem rec_reached (K : Dev nD × Cid → ℕ) (c : Dev nD) (k : Cid) : records m W K ⊢ reached ER (cell c k) 0 := by
  unfold records
  exact sep_elim_right.trans (bigSep_elim (Φ := fun ck : Dev nD × Cid => reached ER (cell ck.1 ck.2) 0) (Finset.mem_univ (c, k)))

/-- What device `c` still owes, whatever it has waited for. -/
def ow (c : Dev nD) (l : List (GSem nD τ sig × ℕ)) : sProp 𝕄 := iprop(∃ V, owes (c : Thread nD τ) (owe l) V)

end Cert.Cube

end
-- ==== Proof.Cube.Comm.lean ====
/-
The communication steps of the body: the handshake, a transfer's start, the wait for an arrival, the wait for a
departure — one rule for each, for every transfer.
-/
module

public import proofs.«01_k».proof.Proof.Cube.Sched

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (W : WV F) (K : Dev nD × Cid → ℕ)

/-! ## A copy's source and destination are runs of slots -/

theorem set_src (t p : Fin 3) : ((tl (F := F) t).src p).view.set = (tl (F := F) t).buf.view.setOn (slots _ 0 (run p)) := by
  unfold Tile.src Memref.slice View.setOn; rw [View.set_slice, slotRect_set]
theorem set_dst (t p : Fin 3) : ((tl (F := F) t).dst p).view.set = (tl (F := F) t).buf.view.setOn (slots _ (run p) (run p)) := by
  unfold Tile.dst Memref.slice View.setOn; rw [View.set_slice, slotRect_set]

/-- A landing copy of final contents leaves final contents. -/
theorem landed_read (c : Dev nD) (x : Fin 9) (f : Buf (Elt F) ((tl (F := F) (til x)).buf.view.loc (par c x : Thread nD τ)))
    (i) (hi : i ∈ slots (tl (F := F) (til x)).w (run (ph x)) (run (ph x))) :
    (tl (F := F) (til x)).buf.view.read (Elt F) (((tl (F := F) (til x)).dst (ph x)).view.write (Elt F) f
      (((tl (F := F) (til x)).src (ph x)).view.read (Elt F) (final m W (til x) c)) Finset.univ) i = gat W (til x) (par c x) i := by
  rw [← slotRect_set _ _ _ (run_le (ph x)), ← Rect.map_emb_univ] at hi
  obtain ⟨j, -, rfl⟩ := Finset.mem_map.mp hi
  refine (View.read_slice_write_emb (v := (tl (F := F) (til x)).buf.view) _ f _ (Finset.mem_univ j)).trans ?_
  have h1 : ((tl (F := F) (til x)).src (ph x)).view.read (Elt F) (final m W (til x) c) j
      = gat W (til x) c ((slotRect _ 0 (run (ph x)) (run_le' (ph x))).emb j) := congrFun (read_final m W (til x) c) _
  have hk : (j 0).val < run (ph x) := (j 0).isLt
  have hr : run (ph x) ≤ 4 := by generalize ph x = p; revert p; decide
  have h2 : org (til x) c (((slotRect _ 0 (run (ph x)) (run_le' (ph x))).emb j) 0).val
      = org (til x) (par c x) (((slotRect _ (run (ph x)) (run (ph x)) (run_le (ph x))).emb j) 0).val := by
    have h := org_par (par c x) x ⟨(j 0).val, by omega⟩ hk
    rw [par_par] at h
    refine (congrArg (org (til x) c) ?_).trans (h.trans (congrArg (org (til x) (par c x)) ?_))
    · show 0 + 1 * (j 0).val = (j 0).val; omega
    · show (j 0).val + run (ph x) = run (ph x) + 1 * (j 0).val; omega
  have h3 : widx (tl (F := F) (til x)) ((slotRect _ 0 (run (ph x)) (run_le' (ph x))).emb j)
      = widx (tl (F := F) (til x)) ((slotRect _ (run (ph x)) (run (ph x)) (run_le (ph x))).emb j) := by
    funext a; fin_cases a <;> rfl
  rw [h1]; unfold gat; rw [h2, h3]

/-! ## The steps -/

theorem duty_mem (c : Dev nD) (k : Cid) (d : Fin 3) (h : d ∈ dutiesK k) : d ∈ (rd m W).duties (cell c k) 0 := by rw [rd_duties]; exact h

/-- One signal of the handshake: what the neighbour along direction `i` is owed at its barrier is paid. -/
theorem wp_signalAt (c : Dev nD) (i : Fin 3) (l : List (GSem nD τ sig × ℕ)) {α : Type} {kk : PUnit → P F α} {Q : α → sProp 𝕄} :
    iprop(records m W K ∗ barPay (nb c i) i ∗ ow c ((bar (nb c i), 1) :: l) ∗ dutyTok ER (bar (nb c i)) 0 i)
      ⊢ iprop((ow c l -∗ wpb c (kk ⟨⟩) Q) -∗ wpb c (.op (.semSignal (nb c i : Thread nD τ) barS 1) kk) Q) := by
  unfold ow
  iintro ⟨#HR, HP, ⟨%V, HO⟩, Ht⟩ Hk
  iapply (Rounds.wp_signal 𝒱₀ ER (rd m W) (c : Thread nD τ) none (dst := (nb c i : Thread nD τ)) (κ := K (nb c i, none))
      (d := i) (duty_mem m W (nb c i) none i (Finset.mem_univ i)) (rd_amount m W (nb c i) none i) () (owe l) rfl) $$ [HO Ht HP]
  · isplitr; · iapply (rec_inv m W K (nb c i) none); iexact HR
    isplitl [HO]; · iexact HO
    isplitl [Ht]; · iexact Ht
    isplitl [HP]
    · rw [show (rd m W).payload ((nb c i : Thread nD τ), .reg barS) 0 i = barPay (nb c i) i from rd_payload m W (nb c i) none i]; iexact HP
    iapply (rec_reached m W K (nb c i) none); iexact HR
  iintro HO
  iapply Hk
  iexists _; iexact HO

theorem wp_handshake (c : Dev nD) (l : List (GSem nD τ sig × ℕ)) (hl : ∀ p ∈ l, p.1.1.2 = .tc ∧ 1 < lv p.1 ())
    {α : Type} {kk : PUnit → P F α} {Q : α → sProp 𝕄} :
    iprop(records m W K ∗ levAts L lv ∗ (barPay (nb c 0) 0 ∗ barPay (nb c 1) 1 ∗ barPay (nb c 2) 2)
        ∗ ow c ((bar (nb c 0), 1) :: (bar (nb c 1), 1) :: (bar (nb c 2), 1) :: l)
        ∗ (dutyTok ER (bar (nb c 0)) 0 0 ∗ dutyTok ER (bar (nb c 1)) 0 1 ∗ dutyTok ER (bar (nb c 2)) 0 2)
        ∗ atPos ER (bar c) 0 ∅ 0 ∗ cred (tallyAt (bar c) () 3))
      ⊢ iprop(((ow c l ∗ semVal (bar c) 0 ∗ barPay c 0 ∗ barPay c 1 ∗ barPay c 2) -∗ wpb c (kk ⟨⟩) Q) -∗ wpb c (handshake c >>= kk) Q) := by
  unfold handshake
  simp only [Prog.bind_op, Prog.bind_ret, dev1_eq c, dev2_eq c, dev3_eq c]
  iintro ⟨#HR, #Hlev, ⟨HP0, HP1, HP2⟩, HO, ⟨Ht0, Ht1, Ht2⟩, Hat, Hc⟩ Hk
  iapply (wp_signalAt m W K c 0 _) $$ [HP0 HO Ht0]
  · iframe HR HP0 HO Ht0
  iintro HO
  iapply (wp_signalAt m W K c 1 _) $$ [HP1 HO Ht1]
  · iframe HR HP1 HO Ht1
  iintro HO
  iapply (wp_signalAt m W K c 2 _) $$ [HP2 HO Ht2]
  · iframe HR HP2 HO Ht2
  iintro HO
  unfold ow
  icases HO with ⟨%V, HO⟩
  iapply (Rounds.wp_wait_rest_token 𝒱₀ ER (rd m W) (c : Thread nD τ) none (κ := K (c, none))
      (wpE_semWait_eq 𝒱₀ (c : Thread nD τ) none Set.univ) (Set.mem_univ _) () (O := owe l) (W := V) (R := 0) (m := 0) (T := ∅)
      ((Nat.zero_add 3).trans (expect_bar m W c).symm)) $$ [Hc HO Hat]
  · isplitr; · iapply (rec_inv m W K c none); iexact HR
    isplitl [Hc]; · iexact Hc
    isplitl [HO]; · iexact HO
    isplitr
    · iapply (mayWait c (.reg barS) l 1 (le_of_eq (lv_cell c none ())) hl); iexact Hlev
    iexact Hat
  iintro ⟨HO, Hat, -, Hpay⟩
  ihave Hp := (Entails.of_eq (show bigSep ((rd m W).duties ((c : Thread nD τ), .reg barS) 0 \ ∅)
      (fun d => (rd m W).payload ((c : Thread nD τ), .reg barS) 0 d) = iprop(barPay c 0 ∗ barPay c 1 ∗ barPay c 2) from rest_bar m W c)) $$ Hpay
  imod (Rounds.cell_close ER (rd m W) (Set.mem_univ (K (c, none))) (fun h => h) (R := 0 + 1) (rd_later m W (bar c))) $$ [Hat] with Hz
  · isplitr; · iapply (rec_inv m W K c none); iexact HR
    iexact Hat
  iapply Hk
  isplitl [HO]; · iexists _; iexact HO
  isplitl [Hz]; · iexact Hz
  iexact Hp

theorem wp_sendAt (c : Dev nD) (x : Fin 9) (l : List (GSem nD τ sig × ℕ)) {α : Type} {kk : PUnit → P F α} {Q : α → sProp 𝕄} :
    iprop(records m W K ∗ held m W (til x) c 0 (run (ph x)) (qs (ph x).castSucc) ∗ land (par c x) x
        ∗ ow c ((rcv (par c x) x, NN x) :: l) ∗ dutyTok ER (snd c x) 0 0 ∗ dutyTok ER (rcv (par c x) x) 0 0)
      ⊢ iprop(((cred (tallyAt (snd c x) () (NN x)) ∗ ow c l) -∗ wpb c (kk ⟨⟩) Q) -∗ wpb c (sendAt c x >>= kk) Q) := by
  unfold sendAt Tile.send
  simp only [Prog.bind_op, Prog.bind_ret]
  unfold ow land
  iintro ⟨#HR, Hs, ⟨%f, Hd⟩, ⟨%V, HO⟩, Ht, Ht'⟩ Hk
  iapply (Rounds.wp_send_pointsTo 𝒱₀ ER (rd m W) (c : Thread nD τ) none (c' := (par c x : Thread nD τ))
      (src := (tl (F := F) (til x)).src (ph x)) (dst := (tl (F := F) (til x)).dst (ph x)) (κ₁ := K (c, some (true, x))) (κ₂ := K (par c x, some (false, x)))
      (q := qs (ph x).castSucc) (fs := final m W (til x) c) (fd := f) (r₁ := 0) (r₂ := 0) (d₁ := 0) (d₂ := 0)
      (duty_mem m W c (some (true, x)) 0 (Finset.mem_singleton_self 0)) (duty_mem m W (par c x) (some (false, x)) 0 (Finset.mem_singleton_self 0))
      () () (NN x) (NN_dst x) (rd_amount m W c (some (true, x)) 0) (rd_amount m W (par c x) (some (false, x)) 0) (owe l) rfl (W := V)
      (by
        refine BI.Entails.trans ?_ (Entails.of_eq (rd_payload m W c (some (true, x)) 0).symm)
        show _ ⊢ sndPay m W c x
        unfold sndPay held anys
        rw [set_src])
      (by
        refine BI.Entails.trans ?_ (Entails.of_eq (rd_payload m W (par c x) (some (false, x)) 0).symm)
        show _ ⊢ rcvPay m W (par c x) x
        unfold rcvPay
        rw [← anys_congr m W (til x) (par c x) _ _ _ fullShare (landed_read m W c x f)]
        unfold anys
        rw [set_dst])) $$ [Hs Hd HO Ht Ht']
  · isplitr; · iapply (rec_inv m W K c (some (true, x))); iexact HR
    isplitr; · iapply (rec_inv m W K (par c x) (some (false, x))); iexact HR
    isplitl [Hs]; · rw [set_src]; unfold held anys; iexact Hs
    isplitl [Hd]; · rw [set_dst]; unfold anys; iexact Hd
    isplitl [HO]; · iexact HO
    isplitl [Ht]; · iexact Ht
    isplitr; · iapply (rec_reached m W K c (some (true, x))); iexact HR
    isplitl [Ht']; · iexact Ht'
    iapply (rec_reached m W K (par c x) (some (false, x))); iexact HR
  iintro ⟨Hc, HO⟩
  iapply Hk
  isplitl [Hc]; · iexact Hc
  iexists _; iexact HO

/-- The wait for transfer `x` on one of its cells: the cell's round is over, and what it handed over is the device's. -/
theorem wp_waitAt (c : Dev nD) (b : Bool) (x : Fin 9) (l : List (GSem nD τ sig × ℕ)) (hl : ∀ p ∈ l, p.1.1.2 = .tc ∧ lvK (some (b, x)) < lv p.1 ())
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (semOf (some (b, x))) (NN x) K')
    {α : Type} {kk : PUnit → P F α} {Q : α → sProp 𝕄} :
    iprop(records m W K ∗ levAts L lv ∗ ow c l ∗ cred (tallyAt (cell c (some (b, x))) () (NN x)) ∗ atPos ER (cell c (some (b, x))) 0 ∅ 0)
      ⊢ iprop(((ow c l ∗ semVal (cell c (some (b, x))) 0 ∗ payK m W c (some (b, x)) 0) -∗ wpb c (kk ⟨⟩) Q) -∗ wpb c (.op w kk) Q) := by
  unfold ow
  iintro ⟨#HR, #Hlev, ⟨%V, HO⟩, Hc, Hat⟩ Hk
  iapply (Rounds.wp_wait_rest_token 𝒱₀ ER (rd m W) (c : Thread nD τ) none (κ := K (c, some (b, x)))
      hw (Set.mem_univ _) () (O := owe l) (W := V) (R := 0) (m := 0) (T := ∅)
      ((Nat.zero_add _).trans (expect_dma m W c b x).symm)) $$ [Hc HO Hat]
  · isplitr; · iapply (rec_inv m W K c (some (b, x))); iexact HR
    isplitl [Hc]; · iexact Hc
    isplitl [HO]; · iexact HO
    isplitr
    · iapply (mayWait c (semOf (some (b, x))) l _ (le_of_eq (lv_cell c (some (b, x)) ())) hl); iexact Hlev
    iexact Hat
  iintro ⟨HO, Hat, -, Hpay⟩
  ihave Hp := (Entails.of_eq (rest_dma m W c b x)) $$ Hpay
  imod (Rounds.cell_close ER (rd m W) (Set.mem_univ (K (c, some (b, x)))) (fun h => h) (R := 0 + 1) (rd_later m W _)) $$ [Hat] with Hz
  · isplitr; · iapply (rec_inv m W K c (some (b, x))); iexact HR
    iexact Hat
  iapply Hk
  isplitl [HO]; · iexists _; iexact HO
  isplitl [Hz]; · iexact Hz
  iexact Hp

theorem wp_recvdAt (c : Dev nD) (x : Fin 9) (l : List (Fin 9)) (hl : ∀ y ∈ l, ph x < ph y) {α : Type} {kk : PUnit → P F α} {Q : α → sProp 𝕄} :
    iprop(records m W K ∗ levAts L lv ∗ ow c (debt c l) ∗ cred (tallyAt (rcv c x) () (NN x)) ∗ atPos ER (rcv c x) 0 ∅ 0)
      ⊢ iprop(((ow c (debt c l) ∗ semVal (rcv c x) 0 ∗ held m W (til x) c (run (ph x)) (run (ph x)) fullShare) -∗ wpb c (kk ⟨⟩) Q)
        -∗ wpb c (recvdAt x >>= kk) Q) := by
  unfold recvdAt Tile.recvd
  simp only [Prog.bind_op, Prog.bind_ret]
  refine wp_waitAt m W K c false x (debt c l) (debt_lv c l _ fun y hy => Nat.add_lt_add_left (Fin.lt_def.mp (hl y hy)) 2) fun K' => ?_
  rw [wpE_waitDma2_eq 𝒱₀ (c : Thread nD τ) none Set.univ]
  exact congrArg (fun n => waitSpec (c : Thread nD τ) Set.univ (semOf (some (false, x))) n K') (NN_dst x)

theorem wp_sentAt (c : Dev nD) (x : Fin 9) {α : Type} {kk : PUnit → P F α} {Q : α → sProp 𝕄} :
    iprop(records m W K ∗ levAts L lv ∗ ow c [] ∗ cred (tallyAt (snd c x) () (NN x)) ∗ atPos ER (snd c x) 0 ∅ 0)
      ⊢ iprop(((ow c [] ∗ semVal (snd c x) 0 ∗ held m W (til x) c 0 (run (ph x)) (qs (ph x).castSucc)) -∗ wpb c (kk ⟨⟩) Q)
        -∗ wpb c (sentAt x >>= kk) Q) := by
  unfold sentAt Tile.sent
  simp only [Prog.bind_op, Prog.bind_ret]
  refine wp_waitAt m W K c true x [] (fun p hp => absurd hp List.not_mem_nil) fun K' => ?_
  rw [wpE_waitDma2_eq 𝒱₀ (c : Thread nD τ) none Set.univ]
  exact congrArg (fun n => waitSpec (c : Thread nD τ) Set.univ (semOf (some (true, x))) n K') (NN_src x)

end Cert.Cube

end
-- ==== Proof.Cube.Body.lean ====
/-
The whole body: from a device's share of the launch to its result, its semaphores at zero and its buffers back.

A tile's slots are held in four shares: share `p` of the slots phase `p` sends is lent to that phase's copy, and the
last share is kept to read with. `St t c p` is what a device holds of a tile when phase `p` is about to be sent, `Ls t c p`
what is left while it is on its way.
-/
module

public import proofs.«01_k».proof.Proof.Cube.Comm

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (W : WV F) (K : Dev nD × Cid → ℕ)

/-! ## A tile's slots from phase to phase -/

/-- Before phase `p` is sent (`p = 3`: after the last arrival). -/
def St (t : Fin 3) (c : Dev nD) : ℕ → sProp 𝕄
  | 0 => iprop(held m W t c 0 1 (qs 0) ∗ held m W t c 0 1 (qs 1) ∗ held m W t c 0 1 (qs 2) ∗ held m W t c 0 1 (qs 3))
  | 1 => iprop(held m W t c 1 1 (qs 0) ∗ held m W t c 0 2 (qs 1) ∗ held m W t c 0 2 (qs 2) ∗ held m W t c 0 2 (qs 3))
  | 2 => iprop(held m W t c 1 3 (qs 0) ∗ held m W t c 2 2 (qs 1) ∗ held m W t c 0 4 (qs 2) ∗ held m W t c 0 4 (qs 3))
  | _ => iprop(held m W t c 1 7 (qs 0) ∗ held m W t c 2 6 (qs 1) ∗ held m W t c 4 4 (qs 2) ∗ held m W t c 0 8 (qs 3))
/-- While phase `p` is on its way. -/
def Ls (t : Fin 3) (c : Dev nD) : Fin 3 → sProp 𝕄
  | 0 => iprop(held m W t c 0 1 (qs 1) ∗ held m W t c 0 1 (qs 2) ∗ held m W t c 0 1 (qs 3))
  | 1 => iprop(held m W t c 1 1 (qs 0) ∗ held m W t c 0 2 (qs 2) ∗ held m W t c 0 2 (qs 3))
  | 2 => iprop(held m W t c 1 3 (qs 0) ∗ held m W t c 2 2 (qs 1) ∗ held m W t c 0 4 (qs 3))
/-- What phase `p`'s copy is lent. -/
def lent (t : Fin 3) (c : Dev nD) (p : Fin 3) : sProp 𝕄 := held m W t c 0 (run p) (qs p.castSucc)

theorem held_add (t : Fin 3) (c : Dev nD) (a n b n' : ℕ) (q : PosShare TreeShare) (h : a + n = b) :
    held (F := F) m W t c a (n + n') q = iprop(held m W t c a n q ∗ held m W t c b n' q) := by
  subst h; exact anys_add t c a n n' _ q
theorem held_share (t : Fin 3) (c : Dev nD) (a n : ℕ) :
    held (F := F) m W t c a n fullShare = iprop(held m W t c a n (qs 0) ∗ held m W t c a n (qs 1) ∗ held m W t c a n (qs 2) ∗ held m W t c a n (qs 3)) :=
  anys_share t c a n _

theorem St_zero (t : Fin 3) (c : Dev nD) : held (F := F) m W t c 0 1 fullShare = St m W t c 0 := held_share m W t c 0 1

/-- Sending lends; -/
theorem St_lend (t : Fin 3) (c : Dev nD) (p : Fin 3) : St (F := F) m W t c p.val ⊢ iprop(lent m W t c p ∗ Ls m W t c p) := by
  fin_cases p
  · exact BI.Entails.refl _
  · show iprop(held m W t c 1 1 (qs 0) ∗ held m W t c 0 2 (qs 1) ∗ held m W t c 0 2 (qs 2) ∗ held m W t c 0 2 (qs 3))
      ⊢ iprop(held m W t c 0 2 (qs 1) ∗ held m W t c 1 1 (qs 0) ∗ held m W t c 0 2 (qs 2) ∗ held m W t c 0 2 (qs 3))
    iintro ⟨H0, H1, H2, H3⟩; iframe H0 H1 H2 H3
  · show iprop(held m W t c 1 3 (qs 0) ∗ held m W t c 2 2 (qs 1) ∗ held m W t c 0 4 (qs 2) ∗ held m W t c 0 4 (qs 3))
      ⊢ iprop(held m W t c 0 4 (qs 2) ∗ held m W t c 1 3 (qs 0) ∗ held m W t c 2 2 (qs 1) ∗ held m W t c 0 4 (qs 3))
    iintro ⟨H0, H1, H2, H3⟩; iframe H0 H1 H2 H3

/-- an arrival doubles the run; -/
theorem Ls_grow (t : Fin 3) (c : Dev nD) (p : Fin 3) : iprop(Ls (F := F) m W t c p ∗ held m W t c (run p) (run p) fullShare) ⊢ St m W t c (p.val + 1) := by
  fin_cases p
  · show iprop((held m W t c 0 1 (qs 1) ∗ held m W t c 0 1 (qs 2) ∗ held m W t c 0 1 (qs 3)) ∗ held m W t c 1 1 fullShare)
      ⊢ iprop(held m W t c 1 1 (qs 0) ∗ held m W t c 0 (1 + 1) (qs 1) ∗ held m W t c 0 (1 + 1) (qs 2) ∗ held m W t c 0 (1 + 1) (qs 3))
    rw [held_share m W t c 1 1, held_add m W t c 0 1 1 1 _ rfl, held_add m W t c 0 1 1 1 _ rfl, held_add m W t c 0 1 1 1 _ rfl]
    iintro ⟨⟨A1, A2, A3⟩, H0, H1, H2, H3⟩; iframe H0 A1 H1 A2 H2 A3 H3
  · show iprop((held m W t c 1 1 (qs 0) ∗ held m W t c 0 2 (qs 2) ∗ held m W t c 0 2 (qs 3)) ∗ held m W t c 2 2 fullShare)
      ⊢ iprop(held m W t c 1 (1 + 2) (qs 0) ∗ held m W t c 2 2 (qs 1) ∗ held m W t c 0 (2 + 2) (qs 2) ∗ held m W t c 0 (2 + 2) (qs 3))
    rw [held_share m W t c 2 2, held_add m W t c 1 1 2 2 _ rfl, held_add m W t c 0 2 2 2 _ rfl, held_add m W t c 0 2 2 2 _ rfl]
    iintro ⟨⟨A1, A2, A3⟩, H0, H1, H2, H3⟩; iframe H0 A1 H1 A2 H2 A3 H3
  · show iprop((held m W t c 1 3 (qs 0) ∗ held m W t c 2 2 (qs 1) ∗ held m W t c 0 4 (qs 3)) ∗ held m W t c 4 4 fullShare)
      ⊢ iprop(held m W t c 1 (3 + 4) (qs 0) ∗ held m W t c 2 (2 + 4) (qs 1) ∗ held m W t c 4 4 (qs 2) ∗ held m W t c 0 (4 + 4) (qs 3))
    rw [held_share m W t c 4 4, held_add m W t c 1 3 4 4 _ rfl, held_add m W t c 2 2 4 4 _ rfl, held_add m W t c 0 4 4 4 _ rfl]
    iintro ⟨⟨A1, A2, A3⟩, H0, H1, H2, H3⟩; iframe H0 A1 H1 A2 H2 A3 H3

/-- and at the end everything lent comes back. -/
theorem St_back (t : Fin 3) (c : Dev nD) (h : (tl (F := F) t).buf.view.set = Finset.univ) :
    iprop(St (F := F) m W t c 3 ∗ lent m W t c 0 ∗ lent m W t c 1 ∗ lent m W t c 2)
      ⊢ iprop(∃ f, (tl (F := F) t).buf.view.loc (c : Thread nD τ) ↦{fullShare} f) := by
  have e : iprop(held (F := F) m W t c 0 (1 + 7) (qs 0) ∗ held m W t c 0 (2 + 6) (qs 1) ∗ held m W t c 0 (4 + 4) (qs 2) ∗ held m W t c 0 8 (qs 3))
      = ((tl (F := F) t).buf.view.loc (c : Thread nD τ) ↦{fullShare} final m W t c : sProp 𝕄) :=
    (held_share m W t c 0 8).symm.trans (anys_univ t c _ h)
  rw [held_add m W t c 0 1 1 7 _ rfl, held_add m W t c 0 2 2 6 _ rfl, held_add m W t c 0 4 4 4 _ rfl] at e
  show iprop((held m W t c 1 7 (qs 0) ∗ held m W t c 2 6 (qs 1) ∗ held m W t c 4 4 (qs 2) ∗ held m W t c 0 8 (qs 3))
    ∗ held m W t c 0 1 (qs 0) ∗ held m W t c 0 2 (qs 1) ∗ held m W t c 0 4 (qs 2)) ⊢ _
  iintro ⟨⟨H0, H1, H2, H3⟩, A0, A1, A2⟩
  iexists (final m W t c)
  rw [← e]
  iframe A0 H0 A1 H1 A2 H2 H3

/-- The slots `[n, 2n)` with any contents. -/
def landN (t : Fin 3) (c : Dev nD) (n : ℕ) : sProp 𝕄 := iprop(∃ f, anys (F := F) t c n n f fullShare)
theorem land_eq (c : Dev nD) (x : Fin 9) {t : Fin 3} {n : ℕ} (ht : til x = t) (hn : run (ph x) = n) : land (F := F) c x = landN t c n := by
  subst ht hn; rfl

theorem tile_open (t : Fin 3) (c : Dev nD) (f) (h : (tl (F := F) t).buf.view.set = Finset.univ) :
    ((tl (F := F) t).buf.view.loc (c : Thread nD τ) ↦{fullShare} f : sProp 𝕄)
      ⊢ iprop(anys (F := F) t c 0 1 f fullShare ∗ landN t c 1 ∗ landN t c 2 ∗ landN t c 4) := by
  rw [← anys_univ t c f h]
  show anys t c 0 (1 + (1 + (2 + 4))) f fullShare ⊢ _
  rw [anys_add t c 0 1, show 0 + 1 = 1 from rfl, anys_add t c 1 1, show 1 + 1 = 2 from rfl, anys_add t c 2 2, show 2 + 2 = 4 from rfl]
  unfold landN
  iintro ⟨H0, H1, H2, H3⟩
  isplitl [H0]; · iexact H0
  isplitl [H1]; · iexists f; iexact H1
  isplitl [H2]; · iexists f; iexact H2
  iexists f; iexact H3

/-! ## Steps on a tile -/

theorem wp_go (c : Dev nD) (x : Fin 9) (t p : Fin 3) (hx : til x = t ∧ ph x = p) (l : List (Fin 9)) {α : Type} {kk : PUnit → P F α} {Q : α → sProp 𝕄} :
    iprop(records m W K ∗ St m W t c p.val ∗ land (par c x) x ∗ ow c (debt c (x :: l)) ∗ dutyTok ER (snd c x) 0 0 ∗ dutyTok ER (rcv (par c x) x) 0 0)
      ⊢ iprop(((cred (tallyAt (snd c x) () (NN x)) ∗ ow c (debt c l) ∗ Ls m W t c p) -∗ wpb c (kk ⟨⟩) Q) -∗ wpb c (sendAt c x >>= kk) Q) := by
  obtain ⟨rfl, rfl⟩ := hx
  iintro ⟨#HR, HS, Hl, HO, Ht, Ht'⟩ Hk
  ihave HS := (St_lend m W (til x) c (ph x)) $$ HS
  icases HS with ⟨Hh, HL⟩
  unfold lent
  iapply (wp_sendAt m W K c x (debt c l)) $$ [Hh Hl HO Ht Ht']
  · isplitr; · iexact HR
    isplitl [Hh]; · iexact Hh
    isplitl [Hl]; · iexact Hl
    isplitl [HO]; · iexact HO
    isplitl [Ht] <;> iassumption
  iintro ⟨Hc, HO⟩
  iapply Hk
  iframe Hc HO HL

theorem wp_come (c : Dev nD) (x : Fin 9) (t p : Fin 3) (hx : til x = t ∧ ph x = p) (n : ℕ) (hn : p.val + 1 = n) (l : List (Fin 9)) (hl : ∀ y ∈ l, ph x < ph y)
    {α : Type} {kk : PUnit → P F α} {Q : α → sProp 𝕄} :
    iprop(records m W K ∗ levAts L lv ∗ Ls m W t c p ∗ ow c (debt c l) ∗ cred (tallyAt (rcv c x) () (NN x)) ∗ atPos ER (rcv c x) 0 ∅ 0)
      ⊢ iprop(((ow c (debt c l) ∗ semVal (rcv c x) 0 ∗ St m W t c n) -∗ wpb c (kk ⟨⟩) Q) -∗ wpb c (recvdAt x >>= kk) Q) := by
  obtain ⟨rfl, rfl⟩ := hx
  subst hn
  iintro ⟨#HR, #Hlev, HL, HO, Hc, Hat⟩ Hk
  iapply (wp_recvdAt m W K c x l hl) $$ [HO Hc Hat]
  · isplitr; · iexact HR
    isplitr; · iexact Hlev
    isplitl [HO]; · iexact HO
    isplitl [Hc] <;> iassumption
  iintro ⟨HO, Hz, Hh⟩
  ihave HS := (Ls_grow m W (til x) c (ph x)) $$ [HL Hh]
  · isplitl [HL] <;> iassumption
  iapply Hk
  iframe HO Hz HS

theorem wp_done (c : Dev nD) (x : Fin 9) (t p : Fin 3) (hx : til x = t ∧ ph x = p) {α : Type} {kk : PUnit → P F α} {Q : α → sProp 𝕄} :
    iprop(records m W K ∗ levAts L lv ∗ ow c (debt c []) ∗ cred (tallyAt (snd c x) () (NN x)) ∗ atPos ER (snd c x) 0 ∅ 0)
      ⊢ iprop(((ow c (debt c []) ∗ semVal (snd c x) 0 ∗ lent m W t c p) -∗ wpb c (kk ⟨⟩) Q) -∗ wpb c (sentAt x >>= kk) Q) := by
  obtain ⟨rfl, rfl⟩ := hx
  exact wp_sentAt m W K c x

theorem last_of_four (A B C D : sProp 𝕄) : iprop(A ∗ B ∗ C ∗ D) ⊢ iprop(D ∗ (D -∗ A ∗ B ∗ C ∗ D)) := by
  iintro ⟨H0, H1, H2, H3⟩
  isplitl [H3]; · iexact H3
  iintro H3
  iframe H0 H1 H2 H3

/-- The slots to read with, and everything back when they are. -/
theorem St_read (t : Fin 3) (c : Dev nD) (p n : ℕ) (h : n = match p with | 0 => 1 | 1 => 2 | 2 => 4 | _ => 8) :
    St (F := F) m W t c p ⊢ iprop(held m W t c 0 n (qs 3) ∗ (held m W t c 0 n (qs 3) -∗ St m W t c p)) := by
  subst h
  rcases p with _ | _ | _ | p <;> exact last_of_four _ _ _ _

theorem last_of_three (A B D : sProp 𝕄) : iprop(A ∗ B ∗ D) ⊢ iprop(D ∗ (D -∗ A ∗ B ∗ D)) := by
  iintro ⟨H0, H1, H3⟩
  isplitl [H3]; · iexact H3
  iintro H3
  iframe H0 H1 H3
theorem Ls_read (t : Fin 3) (c : Dev nD) (p : Fin 3) (n : ℕ) (h : n = run p) :
    Ls (F := F) m W t c p ⊢ iprop(held m W t c 0 n (qs 3) ∗ (held m W t c 0 n (qs 3) -∗ Ls m W t c p)) := by
  subst h
  fin_cases p <;> exact last_of_three _ _ _

/-- A device's activations, selections and result so far. -/
abbrev xso (c : Dev nD) (x : Vec F S2048x512 .bf16) (sel : Vec F S8x2048x128 .bf16) (f : Vec F S2048x1024 .bf16) : sProp 𝕄 :=
  iprop(whl c cc0_stg0_0 x ∗ whl c cc0_stg1_0 sel ∗ whl c cc0_stg3_0 f)

/-- One slot, read out of what the device holds of the tile while phase `p` is on its way. -/
theorem wp_slot (t p : Fin 3) (c : Dev nD) (sel : Vec F S8x2048x128 .bf16) (x : Vec F S2048x512 .bf16) (k : Fin 8) (f : Vec F S2048x1024 .bf16)
    (R : sProp 𝕄) (n : ℕ) (h : R ⊢ iprop(held m W t c 0 n (qs 3) ∗ (held m W t c 0 n (qs 3) -∗ R))) (hk : k.val < 0 + n)
    {α : Type} {kk : PUnit → P F α} {Q : α → sProp 𝕄} :
    iprop(R ∗ xso c x sel f) ⊢ iprop(((R ∗ xso c x sel (slotS W t c sel x k f)) -∗ wpb c (kk ⟨⟩) Q) -∗ wpb c (pieceAt t c k >>= kk) Q) := by
  iintro ⟨HR, Hx⟩ Hk
  ihave HR := h $$ HR
  icases HR with ⟨Hh, HR⟩
  iapply (wp_piece m W t c sel x k f 0 n (qs 3) (Nat.zero_le _) hk) $$ [Hh Hx]
  · isplitl [Hh] <;> iassumption
  iintro ⟨Hh, Hx⟩
  iapply Hk
  isplitl [HR Hh]
  · iapply HR; iexact Hh
  iexact Hx

/-- A run of slots likewise. -/
theorem wp_slots (t : Fin 3) (c : Dev nD) (sel : Vec F S8x2048x128 .bf16) (x : Vec F S2048x512 .bf16) (f : Vec F S2048x1024 .bf16)
    (s n : ℕ) (l : Scf.Loop 32) (ok : l.OK) (h : s + l.trips ≤ 8) (hl : l.trips = n) (n' : ℕ) (R : sProp 𝕄)
    (hR : R ⊢ iprop(held m W t c 0 n' (qs 3) ∗ (held m W t c 0 n' (qs 3) -∗ R))) (hn : s + n ≤ 0 + n')
    {α : Type} {kk : Unit → P F α} {Q : α → sProp 𝕄} :
    iprop(R ∗ xso c x sel f) ⊢ iprop(((R ∗ xso c x sel (slotsS W t c sel x s n f)) -∗ wpb c (kk ⟨⟩) Q) -∗ wpb c (pieces t c s l ok h >>= kk) Q) := by
  iintro ⟨HR, Hx⟩ Hk
  ihave HR := hR $$ HR
  icases HR with ⟨Hh, HR⟩
  iapply (wp_pieces m W t c sel x f s n 0 n' l ok h hl (Nat.zero_le _) hn (qs 3)) $$ [Hh Hx]
  · isplitl [Hh] <;> iassumption
  iintro ⟨Hh, Hx⟩
  iapply Hk
  isplitl [HR Hh]
  · iapply HR; iexact Hh
  iexact Hx

/-! ## The body -/

/-- The body over the tables. -/
def progT (c : Dev nD) : P F PUnit :=
  handshake c >>= fun _ =>
  (tl 0).stage >>= fun _ => (tl 1).stage >>= fun _ => (tl 2).stage >>= fun _ =>
  sendAt c 0 >>= fun _ => sendAt c 3 >>= fun _ => sendAt c 6 >>= fun _ =>
  own c >>= fun _ =>
  recvdAt 6 >>= fun _ => sendAt c 7 >>= fun _ => recvdAt 0 >>= fun _ => sendAt c 1 >>= fun _ => recvdAt 3 >>= fun _ => sendAt c 4 >>= fun _ =>
  pieceAt 2 c 1 >>= fun _ => pieceAt 0 c 1 >>= fun _ => pieceAt 1 c 1 >>= fun _ =>
  recvdAt 7 >>= fun _ => sendAt c 8 >>= fun _ => recvdAt 1 >>= fun _ => sendAt c 2 >>= fun _ => recvdAt 4 >>= fun _ => sendAt c 5 >>= fun _ =>
  pieces 2 c 2 k0_t1_loop k0_t1_ok (by decide) >>= fun _ => pieces 0 c 2 k0_t2_loop k0_t2_ok (by decide) >>= fun _ =>
  pieces 1 c 2 k0_t3_loop k0_t3_ok (by decide) >>= fun _ =>
  recvdAt 8 >>= fun _ => pieces 2 c 4 k0_t4_loop k0_t4_ok (by decide) >>= fun _ =>
  recvdAt 2 >>= fun _ => pieces 0 c 4 k0_t5_loop k0_t5_ok (by decide) >>= fun _ =>
  recvdAt 5 >>= fun _ => pieces 1 c 4 k0_t6_loop k0_t6_ok (by decide) >>= fun _ =>
  sentAt 0 >>= fun _ => sentAt 3 >>= fun _ => sentAt 6 >>= fun _ => sentAt 7 >>= fun _ => sentAt 1 >>= fun _ =>
  sentAt 4 >>= fun _ => sentAt 8 >>= fun _ => sentAt 2 >>= fun _ => sentAt 5 >>= fun _ => .ret ⟨⟩

/-- `prog`, its three single slots left open. -/
def progP (d0 : Dev nD) (a b d : P F PUnit) : P F PUnit :=
  handshake d0 >>= fun _ =>
  T0.stage >>= fun _ => T1.stage >>= fun _ => T2.stage >>= fun _ =>
  T0.send 0 0 ⟨k0_dev4 d0, k0_dev4_lt d0⟩ >>= fun _ => T1.send 0 3 ⟨k0_dev5 d0, k0_dev5_lt d0⟩ >>= fun _ => T2.send 0 6 ⟨k0_dev6 d0, k0_dev6_lt d0⟩ >>= fun _ =>
  own d0 >>= fun _ =>
  T2.recvd 0 6 >>= fun _ => T2.send 1 7 ⟨k0_dev7 d0, k0_dev7_lt d0⟩ >>= fun _ =>
  T0.recvd 0 0 >>= fun _ => T0.send 1 1 ⟨k0_dev8 d0, k0_dev8_lt d0⟩ >>= fun _ =>
  T1.recvd 0 3 >>= fun _ => T1.send 1 4 ⟨k0_dev9 d0, k0_dev9_lt d0⟩ >>= fun _ =>
  a >>= fun _ =>
  b >>= fun _ =>
  d >>= fun _ =>
  T2.recvd 1 7 >>= fun _ => T2.send 2 8 ⟨k0_dev10 d0, k0_dev10_lt d0⟩ >>= fun _ =>
  T0.recvd 1 1 >>= fun _ => T0.send 2 2 ⟨k0_dev11 d0, k0_dev11_lt d0⟩ >>= fun _ =>
  T1.recvd 1 4 >>= fun _ => T1.send 2 5 ⟨k0_dev12 d0, k0_dev12_lt d0⟩ >>= fun _ =>
  loop1 d0 >>= fun _ =>
  loop2 d0 >>= fun _ =>
  loop3 d0 >>= fun _ =>
  T2.recvd 2 8 >>= fun _ =>
  loop4 d0 >>= fun _ =>
  T0.recvd 2 2 >>= fun _ =>
  loop5 d0 >>= fun _ =>
  T1.recvd 2 5 >>= fun _ =>
  loop6 d0 >>= fun _ =>
  T0.sent 0 0 >>= fun _ => T1.sent 0 3 >>= fun _ => T2.sent 0 6 >>= fun _ => T2.sent 1 7 >>= fun _ => T0.sent 1 1 >>= fun _ =>
  T1.sent 1 4 >>= fun _ => T2.sent 2 8 >>= fun _ => T0.sent 2 2 >>= fun _ => T1.sent 2 5

theorem progP_eq (c : Dev nD) : progP (F := F) c (pieceAt 2 c 1) (pieceAt 0 c 1) (pieceAt 1 c 1) = progT c := by
  unfold progP
  rw [dev4_eq, dev5_eq, dev6_eq, dev7_eq, dev8_eq, dev9_eq, dev10_eq, dev11_eq, dev12_eq, loop1_eq, loop2_eq, loop3_eq, loop4_eq, loop5_eq, loop6_eq]
  rw [show T1.sent (F := F) 2 5 = sentAt 5 >>= fun _ => .ret ⟨⟩ from (Prog.bind_pure _).symm]
  rfl

theorem prog_eq (c : Dev nD) : prog (F := F) c = progT c := by
  have e (a a' b b' d d' : P F PUnit) (ha : a = a') (hb : b = b') (hd : d = d') : progP c a b d = progP c a' b' d' := by rw [ha, hb, hd]
  exact (e _ _ _ _ _ _ (first_piece 2 c (off2_0 c)) (first_piece 0 c (off2_1 c)) (first_piece 1 c (off2_2 c))).trans (progP_eq c)

/-- The result a device ends with. -/
def outAt (c : Dev nD) (sel : Vec F S8x2048x128 .bf16) (x : Vec F S2048x512 .bf16) : Vec F S2048x1024 .bf16 :=
  slotsS W 1 c sel x 4 4 <| slotsS W 0 c sel x 4 4 <| slotsS W 2 c sel x 4 4 <|
  slotsS W 1 c sel x 2 2 <| slotsS W 0 c sel x 2 2 <| slotsS W 2 c sel x 2 2 <|
  slotS W 1 c sel x 1 <| slotS W 0 c sel x 1 <| slotS W 2 c sel x 1 <| ownS W c sel x

/-- What the launch gives a device for transfer `x`. -/
def kit (c : Dev nD) (x : Fin 9) : sProp 𝕄 :=
  iprop(atPos ER (snd c x) 0 ∅ 0 ∗ atPos ER (rcv c x) 0 ∅ 0 ∗ dutyTok ER (snd c x) 0 0 ∗ dutyTok ER (rcv (par c x) x) 0 0
    ∗ cred (tallyAt (rcv c x) () (NN x)))
/-- What it gives it for the handshake. -/
def barKit (c : Dev nD) : sProp 𝕄 :=
  iprop((dutyTok ER (bar (nb c 0)) 0 0 ∗ dutyTok ER (bar (nb c 1)) 0 1 ∗ dutyTok ER (bar (nb c 2)) 0 2)
    ∗ atPos ER (bar c) 0 ∅ 0 ∗ cred (tallyAt (bar c) () 3))
/-- A gathered-weights buffer, whole, with any contents. -/
def scr (c : Dev nD) (t : Fin 3) : sProp 𝕄 := iprop(∃ f, (tl (F := F) t).buf.view.loc (c : Thread nD τ) ↦{fullShare} f)
/-- A transfer's cells at zero. -/
def zero (c : Dev nD) (x : Fin 9) : sProp 𝕄 := iprop(semVal (snd c x) 0 ∗ semVal (rcv c x) 0)

theorem buf_set (t : Fin 3) : (tl (F := F) t).buf.view.set = Finset.univ := by fin_cases t <;> exact View.set_whole _

theorem barPay_own (c : Dev nD) (i : Fin 3) : barPay (F := F) (nb c i) i = iprop(land c (via i 0) ∗ land c (via i 1) ∗ land c (via i 2)) := by
  unfold barPay; rw [nb_nb]
theorem barPay_par (c : Dev nD) (i : Fin 3) : barPay (F := F) c i
    = iprop(land (par c (via i 0)) (via i 0) ∗ land (par c (via i 1)) (via i 1) ∗ land (par c (via i 2)) (via i 2)) := by
  unfold barPay; rw [par_via, par_via, par_via]

theorem scr_open (c : Dev nD) (t : Fin 3) (x y z : Fin 9) (hx : til x = t ∧ run (ph x) = 1) (hy : til y = t ∧ run (ph y) = 2) (hz : til z = t ∧ run (ph z) = 4) :
    scr (F := F) c t ⊢ iprop((∃ f, anys (F := F) t c 0 1 f fullShare) ∗ land c x ∗ land c y ∗ land c z) := by
  rw [land_eq c x hx.1 hx.2, land_eq c y hy.1 hy.2, land_eq c z hz.1 hz.2]
  unfold scr
  iintro ⟨%f, H⟩
  ihave H := (tile_open t c f (buf_set t)) $$ H
  icases H with ⟨H0, H⟩
  isplitl [H0]; · iexists f; iexact H0
  iexact H

set_option maxHeartbeats 1600000 in
/-- The body, step by step. -/
theorem wp_body (c : Dev nD) (sel : Vec F S8x2048x128 .bf16) (x : Vec F S2048x512 .bf16) {Q : PUnit → sProp 𝕄} :
    iprop(records m W K ∗ levAts L lv ∗ ow c (debts c) ∗ barKit c
        ∗ (kit c 0 ∗ kit c 1 ∗ kit c 2 ∗ kit c 3 ∗ kit c 4 ∗ kit c 5 ∗ kit c 6 ∗ kit c 7 ∗ kit c 8)
        ∗ (scr c 0 ∗ scr c 1 ∗ scr c 2) ∗ whl c cc0_stg2_0 (W c) ∗ whl c cc0_stg0_0 x ∗ whl c cc0_stg1_0 sel ∗ ∃ f, whl c cc0_stg3_0 f)
      ⊢ iprop(((ow c [] ∗ semVal (bar c) 0
            ∗ (zero c 0 ∗ zero c 1 ∗ zero c 2 ∗ zero c 3 ∗ zero c 4 ∗ zero c 5 ∗ zero c 6 ∗ zero c 7 ∗ zero c 8)
            ∗ (scr c 0 ∗ scr c 1 ∗ scr c 2) ∗ whl c cc0_stg2_0 (W c) ∗ xso c x sel (outAt W c sel x)) -∗ wpb c (.ret ⟨⟩) Q)
        -∗ wpb c (prog c) Q) := by
  rw [prog_eq]
  unfold progT barKit kit
  iintro ⟨#HR, #Hlev, HO, ⟨Htb, Hab, Hcb⟩, ⟨K0, K1, K2, K3, K4, K5, K6, K7, K8⟩, ⟨S0, S1, S2⟩, Hw, Hx, Hs, ⟨%f, Ho⟩⟩ Hk
  icases K0 with ⟨As0, Ar0, Ts0, Tr0, Cr0⟩
  icases K1 with ⟨As1, Ar1, Ts1, Tr1, Cr1⟩
  icases K2 with ⟨As2, Ar2, Ts2, Tr2, Cr2⟩
  icases K3 with ⟨As3, Ar3, Ts3, Tr3, Cr3⟩
  icases K4 with ⟨As4, Ar4, Ts4, Tr4, Cr4⟩
  icases K5 with ⟨As5, Ar5, Ts5, Tr5, Cr5⟩
  icases K6 with ⟨As6, Ar6, Ts6, Tr6, Cr6⟩
  icases K7 with ⟨As7, Ar7, Ts7, Tr7, Cr7⟩
  icases K8 with ⟨As8, Ar8, Ts8, Tr8, Cr8⟩
  ihave S0 := (scr_open c 0 0 1 2 ⟨rfl, rfl⟩ ⟨rfl, rfl⟩ ⟨rfl, rfl⟩) $$ S0
  icases S0 with ⟨⟨%f0, B0⟩, L0, L1, L2⟩
  ihave S1 := (scr_open c 1 3 4 5 ⟨rfl, rfl⟩ ⟨rfl, rfl⟩ ⟨rfl, rfl⟩) $$ S1
  icases S1 with ⟨⟨%f1, B1⟩, L3, L4, L5⟩
  ihave S2 := (scr_open c 2 6 7 8 ⟨rfl, rfl⟩ ⟨rfl, rfl⟩ ⟨rfl, rfl⟩) $$ S2
  icases S2 with ⟨⟨%f2, B2⟩, L6, L7, L8⟩
  iapply (wp_handshake m W K c (debt c order) (debt_lv c order 1 (by decide))) $$ [HO Htb Hab Hcb L0 L1 L2 L3 L4 L5 L6 L7 L8]
  · isplitr; · iexact HR
    isplitr; · iexact Hlev
    isplitl [L0 L1 L2 L3 L4 L5 L6 L7 L8]
    · rw [show barPay (nb c 0) 0 = iprop(land c 0 ∗ land c 5 ∗ land c 7) from barPay_own c 0,
        show barPay (nb c 1) 1 = iprop(land c 1 ∗ land c 3 ∗ land c 8) from barPay_own c 1,
        show barPay (nb c 2) 2 = iprop(land c 2 ∗ land c 4 ∗ land c 6) from barPay_own c 2]
      iframe L0 L1 L2 L3 L4 L5 L6 L7 L8
    isplitl [HO]; · iexact HO
    isplitl [Htb]; · iexact Htb
    isplitl [Hab] <;> iassumption
  iintro ⟨HO, Zb, P0, P1, P2⟩
  ihave P0 := (Entails.of_eq (show barPay c 0 = iprop(land (par c 0) 0 ∗ land (par c 5) 5 ∗ land (par c 7) 7) from barPay_par c 0)) $$ P0
  icases P0 with ⟨L0, L5, L7⟩
  ihave P1 := (Entails.of_eq (show barPay c 1 = iprop(land (par c 1) 1 ∗ land (par c 3) 3 ∗ land (par c 8) 8) from barPay_par c 1)) $$ P1
  icases P1 with ⟨L1, L3, L8⟩
  ihave P2 := (Entails.of_eq (show barPay c 2 = iprop(land (par c 2) 2 ∗ land (par c 4) 4 ∗ land (par c 6) 6) from barPay_par c 2)) $$ P2
  icases P2 with ⟨L2, L4, L6⟩
  iapply (wp_stage m W 0 c f0) $$ [B0 Hw]
  · isplitl [B0] <;> iassumption
  iintro ⟨B0, Hw⟩
  ihave B0 := (Entails.of_eq (St_zero m W 0 c)) $$ B0
  iapply (wp_stage m W 1 c f1) $$ [B1 Hw]
  · isplitl [B1] <;> iassumption
  iintro ⟨B1, Hw⟩
  ihave B1 := (Entails.of_eq (St_zero m W 1 c)) $$ B1
  iapply (wp_stage m W 2 c f2) $$ [B2 Hw]
  · isplitl [B2] <;> iassumption
  iintro ⟨B2, Hw⟩
  ihave B2 := (Entails.of_eq (St_zero m W 2 c)) $$ B2
  iapply (wp_go m W K c 0 0 0 ⟨rfl, rfl⟩ [3, 6, 7, 1, 4, 8, 2, 5]) $$ [B0 L0 HO Ts0 Tr0]
  · iframe HR B0 L0 HO Ts0 Tr0
  iintro ⟨Cs0, HO, B0⟩
  iapply (wp_go m W K c 3 1 0 ⟨rfl, rfl⟩ [6, 7, 1, 4, 8, 2, 5]) $$ [B1 L3 HO Ts3 Tr3]
  · iframe HR B1 L3 HO Ts3 Tr3
  iintro ⟨Cs3, HO, B1⟩
  iapply (wp_go m W K c 6 2 0 ⟨rfl, rfl⟩ [7, 1, 4, 8, 2, 5]) $$ [B2 L6 HO Ts6 Tr6]
  · iframe HR B2 L6 HO Ts6 Tr6
  iintro ⟨Cs6, HO, B2⟩
  iapply (wp_own W c sel x f) $$ [Hw Hx Hs Ho]
  · iframe Hw Hx Hs Ho
  iintro ⟨Hw, X⟩
  iapply (wp_come m W K c 6 2 0 ⟨rfl, rfl⟩ 1 rfl [7, 1, 4, 8, 2, 5] (by decide)) $$ [B2 HO Cr6 Ar6]
  · iframe HR Hlev B2 HO Cr6 Ar6
  iintro ⟨HO, Zr6, B2⟩
  iapply (wp_go m W K c 7 2 1 ⟨rfl, rfl⟩ [1, 4, 8, 2, 5]) $$ [B2 L7 HO Ts7 Tr7]
  · iframe HR B2 L7 HO Ts7 Tr7
  iintro ⟨Cs7, HO, B2⟩
  iapply (wp_come m W K c 0 0 0 ⟨rfl, rfl⟩ 1 rfl [1, 4, 8, 2, 5] (by decide)) $$ [B0 HO Cr0 Ar0]
  · iframe HR Hlev B0 HO Cr0 Ar0
  iintro ⟨HO, Zr0, B0⟩
  iapply (wp_go m W K c 1 0 1 ⟨rfl, rfl⟩ [4, 8, 2, 5]) $$ [B0 L1 HO Ts1 Tr1]
  · iframe HR B0 L1 HO Ts1 Tr1
  iintro ⟨Cs1, HO, B0⟩
  iapply (wp_come m W K c 3 1 0 ⟨rfl, rfl⟩ 1 rfl [4, 8, 2, 5] (by decide)) $$ [B1 HO Cr3 Ar3]
  · iframe HR Hlev B1 HO Cr3 Ar3
  iintro ⟨HO, Zr3, B1⟩
  iapply (wp_go m W K c 4 1 1 ⟨rfl, rfl⟩ [8, 2, 5]) $$ [B1 L4 HO Ts4 Tr4]
  · iframe HR B1 L4 HO Ts4 Tr4
  iintro ⟨Cs4, HO, B1⟩
  iapply (wp_slot m W 2 1 c sel x 1 _ _ 2 (Ls_read m W 2 c 1 2 rfl) (by decide)) $$ [B2 X]
  · isplitl [B2] <;> iassumption
  iintro ⟨B2, X⟩
  iapply (wp_slot m W 0 1 c sel x 1 _ _ 2 (Ls_read m W 0 c 1 2 rfl) (by decide)) $$ [B0 X]
  · isplitl [B0] <;> iassumption
  iintro ⟨B0, X⟩
  iapply (wp_slot m W 1 1 c sel x 1 _ _ 2 (Ls_read m W 1 c 1 2 rfl) (by decide)) $$ [B1 X]
  · isplitl [B1] <;> iassumption
  iintro ⟨B1, X⟩
  iapply (wp_come m W K c 7 2 1 ⟨rfl, rfl⟩ 2 rfl [8, 2, 5] (by decide)) $$ [B2 HO Cr7 Ar7]
  · iframe HR Hlev B2 HO Cr7 Ar7
  iintro ⟨HO, Zr7, B2⟩
  iapply (wp_go m W K c 8 2 2 ⟨rfl, rfl⟩ [2, 5]) $$ [B2 L8 HO Ts8 Tr8]
  · iframe HR B2 L8 HO Ts8 Tr8
  iintro ⟨Cs8, HO, B2⟩
  iapply (wp_come m W K c 1 0 1 ⟨rfl, rfl⟩ 2 rfl [2, 5] (by decide)) $$ [B0 HO Cr1 Ar1]
  · iframe HR Hlev B0 HO Cr1 Ar1
  iintro ⟨HO, Zr1, B0⟩
  iapply (wp_go m W K c 2 0 2 ⟨rfl, rfl⟩ [5]) $$ [B0 L2 HO Ts2 Tr2]
  · iframe HR B0 L2 HO Ts2 Tr2
  iintro ⟨Cs2, HO, B0⟩
  iapply (wp_come m W K c 4 1 1 ⟨rfl, rfl⟩ 2 rfl [5] (by decide)) $$ [B1 HO Cr4 Ar4]
  · iframe HR Hlev B1 HO Cr4 Ar4
  iintro ⟨HO, Zr4, B1⟩
  iapply (wp_go m W K c 5 1 2 ⟨rfl, rfl⟩ []) $$ [B1 L5 HO Ts5 Tr5]
  · iframe HR B1 L5 HO Ts5 Tr5
  iintro ⟨Cs5, HO, B1⟩
  iapply (wp_slots m W 2 c sel x _ 2 2 k0_t1_loop k0_t1_ok _ (by decide) 4 _ (Ls_read m W 2 c 2 4 rfl) (by decide)) $$ [B2 X]
  · isplitl [B2] <;> iassumption
  iintro ⟨B2, X⟩
  iapply (wp_slots m W 0 c sel x _ 2 2 k0_t2_loop k0_t2_ok _ (by decide) 4 _ (Ls_read m W 0 c 2 4 rfl) (by decide)) $$ [B0 X]
  · isplitl [B0] <;> iassumption
  iintro ⟨B0, X⟩
  iapply (wp_slots m W 1 c sel x _ 2 2 k0_t3_loop k0_t3_ok _ (by decide) 4 _ (Ls_read m W 1 c 2 4 rfl) (by decide)) $$ [B1 X]
  · isplitl [B1] <;> iassumption
  iintro ⟨B1, X⟩
  iapply (wp_come m W K c 8 2 2 ⟨rfl, rfl⟩ 3 rfl [] (by decide)) $$ [B2 HO Cr8 Ar8]
  · iframe HR Hlev B2 HO Cr8 Ar8
  iintro ⟨HO, Zr8, B2⟩
  iapply (wp_slots m W 2 c sel x _ 4 4 k0_t4_loop k0_t4_ok _ (by decide) 8 _ (St_read m W 2 c 3 8 rfl) (by decide)) $$ [B2 X]
  · isplitl [B2] <;> iassumption
  iintro ⟨B2, X⟩
  iapply (wp_come m W K c 2 0 2 ⟨rfl, rfl⟩ 3 rfl [] (by decide)) $$ [B0 HO Cr2 Ar2]
  · iframe HR Hlev B0 HO Cr2 Ar2
  iintro ⟨HO, Zr2, B0⟩
  iapply (wp_slots m W 0 c sel x _ 4 4 k0_t5_loop k0_t5_ok _ (by decide) 8 _ (St_read m W 0 c 3 8 rfl) (by decide)) $$ [B0 X]
  · isplitl [B0] <;> iassumption
  iintro ⟨B0, X⟩
  iapply (wp_come m W K c 5 1 2 ⟨rfl, rfl⟩ 3 rfl [] (by decide)) $$ [B1 HO Cr5 Ar5]
  · iframe HR Hlev B1 HO Cr5 Ar5
  iintro ⟨HO, Zr5, B1⟩
  iapply (wp_slots m W 1 c sel x _ 4 4 k0_t6_loop k0_t6_ok _ (by decide) 8 _ (St_read m W 1 c 3 8 rfl) (by decide)) $$ [B1 X]
  · isplitl [B1] <;> iassumption
  iintro ⟨B1, X⟩
  iapply (wp_done m W K c 0 0 0 ⟨rfl, rfl⟩) $$ [HO Cs0 As0]
  · iframe HR Hlev HO Cs0 As0
  iintro ⟨HO, Zs0, E0⟩
  iapply (wp_done m W K c 3 1 0 ⟨rfl, rfl⟩) $$ [HO Cs3 As3]
  · iframe HR Hlev HO Cs3 As3
  iintro ⟨HO, Zs3, E3⟩
  iapply (wp_done m W K c 6 2 0 ⟨rfl, rfl⟩) $$ [HO Cs6 As6]
  · iframe HR Hlev HO Cs6 As6
  iintro ⟨HO, Zs6, E6⟩
  iapply (wp_done m W K c 7 2 1 ⟨rfl, rfl⟩) $$ [HO Cs7 As7]
  · iframe HR Hlev HO Cs7 As7
  iintro ⟨HO, Zs7, E7⟩
  iapply (wp_done m W K c 1 0 1 ⟨rfl, rfl⟩) $$ [HO Cs1 As1]
  · iframe HR Hlev HO Cs1 As1
  iintro ⟨HO, Zs1, E1⟩
  iapply (wp_done m W K c 4 1 1 ⟨rfl, rfl⟩) $$ [HO Cs4 As4]
  · iframe HR Hlev HO Cs4 As4
  iintro ⟨HO, Zs4, E4⟩
  iapply (wp_done m W K c 8 2 2 ⟨rfl, rfl⟩) $$ [HO Cs8 As8]
  · iframe HR Hlev HO Cs8 As8
  iintro ⟨HO, Zs8, E8⟩
  iapply (wp_done m W K c 2 0 2 ⟨rfl, rfl⟩) $$ [HO Cs2 As2]
  · iframe HR Hlev HO Cs2 As2
  iintro ⟨HO, Zs2, E2⟩
  iapply (wp_done m W K c 5 1 2 ⟨rfl, rfl⟩) $$ [HO Cs5 As5]
  · iframe HR Hlev HO Cs5 As5
  iintro ⟨HO, Zs5, E5⟩
  ihave B0 := (St_back m W 0 c (buf_set 0)) $$ [B0 E0 E1 E2]
  · iframe B0 E0 E1 E2
  ihave B1 := (St_back m W 1 c (buf_set 1)) $$ [B1 E3 E4 E5]
  · iframe B1 E3 E4 E5
  ihave B2 := (St_back m W 2 c (buf_set 2)) $$ [B2 E6 E7 E8]
  · iframe B2 E6 E7 E8
  iapply Hk
  unfold zero scr
  isplitl [HO]; · iexact HO
  isplitl [Zb]; · iexact Zb
  isplitl [Zs0 Zr0 Zs1 Zr1 Zs2 Zr2 Zs3 Zr3 Zs4 Zr4 Zs5 Zr5 Zs6 Zr6 Zs7 Zr7 Zs8 Zr8]
  · iframe Zs0 Zr0 Zs1 Zr1 Zs2 Zr2 Zs3 Zr3 Zs4 Zr4 Zs5 Zr5 Zs6 Zr6 Zs7 Zr7 Zs8 Zr8
  isplitl [B0 B1 B2]; · iframe B0 B1 B2
  isplitl [Hw]; · iexact Hw
  iexact X

end Cert.Cube

end
-- ==== Proof.Cube.Launch.lean ====
/-
The launch: what every device's share is made of, how it is dealt, and the run of the whole program.

Every device mints the duty tokens of its own cells. A barrier token goes to the neighbour along its direction, a
receive token to the device that sends, a send token stays: one permutation of all tokens (`deal`).
-/
module

public import proofs.«01_k».proof.Proof.Cube.Body
public import proofs.«01_k».proof.Proof.Gen.KernelIdeal.Points
public import Idealize.ShloMosaic.Lib.Pipeline.CollectiveSegs

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over cells -/

theorem bigSep_nine (Φ : Fin 9 → sProp 𝕄) : bigSep Finset.univ Φ
    = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem bigSep_pairs (Φ : Bool × Fin 9 → sProp 𝕄) : bigSep Finset.univ Φ
    = iprop((bigSep Finset.univ fun x => Φ (true, x)) ∗ bigSep Finset.univ fun x => Φ (false, x)) := by
  rw [bigSep_univ_prod]
  exact bigSep_univ_eq_bigSepL [true, false] (by decide) (by decide) _

theorem bigSep_cid (Φ : Cid → sProp 𝕄) : bigSep Finset.univ Φ
    = iprop(Φ none ∗ (bigSep Finset.univ fun x => Φ (some (true, x))) ∗ bigSep Finset.univ fun x => Φ (some (false, x))) := by
  rw [show (Finset.univ : Finset Cid) = insert none (Finset.univ.map Function.Embedding.some) from by decide,
    bigSep_insert (by decide), bigSep_map]
  exact congrArg (fun A => iprop(Φ none ∗ A)) (bigSep_pairs fun bx => Φ (some bx))

/-! ## Tokens -/

/-- Who gets the token of duty `i` of cell `k`: the device that pays it. -/
def payer : Cid → Fin 3 → Dev nD → Dev nD
  | none, i, c => nb c i
  | some (true, _), _, c => c
  | some (false, x), _, c => par c x

theorem payer_payer (k : Cid) (i : Fin 3) (c : Dev nD) : payer k i (payer k i c) = c := by
  rcases k with _ | ⟨_ | _, x⟩
  · exact nb_nb c i
  · exact par_par c x
  · rfl

def deal : Dev nD × Cid × Fin 3 ≃ Dev nD × Cid × Fin 3 where
  toFun t := (payer t.2.1 t.2.2 t.1, t.2)
  invFun t := (payer t.2.1 t.2.2 t.1, t.2)
  left_inv t := Prod.ext (payer_payer _ _ _) rfl
  right_inv t := Prod.ext (payer_payer _ _ _) rfl

def tokOf (t : Dev nD × Cid × Fin 3) : GSem nD τ sig × ℕ × Fin 3 := (cell t.1 t.2.1, 0, t.2.2)
theorem tokOf_injective : Function.Injective tokOf := by
  rintro ⟨c, k, i⟩ ⟨c', k', i'⟩ h
  have h1 := cell_eq_iff.mp (congrArg Prod.fst h)
  have h2 : i = i' := congrArg (fun x : GSem nD τ sig × ℕ × Fin 3 => x.2.2) h
  exact Prod.ext h1.1 (Prod.ext h1.2 h2)

def allCells : Finset (GSem nD τ sig) := Finset.univ.map ⟨fun ck : Dev nD × Cid => cell ck.1 ck.2, cell_injective⟩
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of a device's own cells, and those of the duties it pays. -/
def toks (c : Dev nD) : sProp 𝕄 := bigSep Finset.univ fun ki : Cid × Fin 3 => dutyTok ER (cell c ki.1) 0 ki.2
def payToks (c : Dev nD) : sProp 𝕄 := bigSep Finset.univ fun ki : Cid × Fin 3 => dutyTok ER (cell (payer ki.1 ki.2 c) ki.1) 0 ki.2

theorem toks_dealt : (bigSep Finset.univ fun c : Dev nD => (toks c : sProp 𝕄)) = bigSep Finset.univ fun c : Dev nD => payToks c := by
  unfold toks payToks
  rw [← bigSep_univ_prod (fun t : Dev nD × Cid × Fin 3 => (dutyTok ER (cell t.1 t.2.1) 0 t.2.2 : sProp 𝕄)), bigSep_univ_equiv deal, bigSep_univ_prod]
  rfl

theorem payToks_split (c : Dev nD) : (payToks c : sProp 𝕄)
    ⊢ iprop((dutyTok ER (bar (nb c 0)) 0 0 ∗ dutyTok ER (bar (nb c 1)) 0 1 ∗ dutyTok ER (bar (nb c 2)) 0 2)
        ∗ (bigSep Finset.univ fun x : Fin 9 => dutyTok ER (snd c x) 0 0) ∗ bigSep Finset.univ fun x : Fin 9 => dutyTok ER (rcv (par c x) x) 0 0) := by
  unfold payToks
  rw [bigSep_univ_prod, bigSep_cid]
  refine sep_mono (Entails.of_eq (bigSep_univ_eq_bigSepL [0, 1, 2] (by decide) (by decide) _)) (sep_mono ?_ ?_)
  · exact bigSep_mono fun x _ => bigSep_elim (Φ := fun i : Fin 3 => dutyTok ER (snd c x) 0 i) (Finset.mem_univ 0)
  · exact bigSep_mono fun x _ => bigSep_elim (Φ := fun i : Fin 3 => dutyTok ER (rcv (par c x) x) 0 i) (Finset.mem_univ 0)

/-! ## Launch credit -/

theorem owe_apply (l : List (GSem nD τ sig × ℕ)) (g : GSem nD τ sig) : owe l g () = (l.map fun p => if g = p.1 then p.2 else 0).sum := by
  induction l with
  | nil => rfl
  | cons p l ih =>
    unfold owe
    rw [Pi.add_apply, Finsupp.add_apply, tallyAt_apply, ih, List.map_cons, List.sum_cons, Nat.add_comm]
    by_cases h : g = p.1
    · rw [if_pos ⟨h, rfl⟩, if_pos h]
    · rw [if_neg fun h' => h h'.1, if_neg h]

theorem owe_debt (d c : Dev nD) (k : Cid) (l : List (Fin 9)) :
    ((debt d l).map fun p => if cell c k = p.1 then p.2 else 0) = l.map fun y => if c = par d y ∧ k = some (false, y) then NN y else 0 := by
  unfold debt
  rw [List.map_map]
  exact List.map_congr_left fun y _ => if_congr cell_eq_iff rfl rfl

theorem owed_bar (d c : Dev nD) : O₀ d (bar c) () = (if c = nb d 0 then 1 else 0) + ((if c = nb d 1 then 1 else 0) + (if c = nb d 2 then 1 else 0)) := by
  have h (i : Fin 3) : (if bar c = bar (nb d i) then 1 else 0) = if c = nb d i then 1 else 0 :=
    if_congr ((cell_eq_iff (k := none) (k' := none)).trans (and_iff_left rfl)) rfl rfl
  unfold O₀ debts
  rw [owe_apply, List.map_cons, List.map_cons, List.map_cons, owe_debt, List.sum_cons, List.sum_cons, List.sum_cons]
  dsimp only
  rw [h 0, h 1, h 2, List.sum_eq_zero (fun n hn => by
    obtain ⟨y, _, rfl⟩ := List.mem_map.mp hn
    exact if_neg fun h => by cases h.2), Nat.add_zero]

theorem owed_rcv (d c : Dev nD) (x : Fin 9) : O₀ d (rcv c x) () = (order.map fun y => if c = par d y ∧ x = y then 1 else 0).sum * NN x := by
  have h (i : Fin 3) : (if rcv c x = bar (nb d i) then 1 else 0) = 0 := if_neg fun h => by cases (cell_eq_iff.mp h).2
  unfold O₀ debts
  rw [owe_apply, List.map_cons, List.map_cons, List.map_cons, owe_debt, List.sum_cons, List.sum_cons, List.sum_cons]
  dsimp only
  rw [h 0, h 1, h 2, Nat.zero_add, Nat.zero_add, Nat.zero_add, ← List.sum_map_mul_right]
  refine congrArg List.sum (List.map_congr_left fun y _ => ?_)
  by_cases hy : c = par d y ∧ x = y
  · obtain ⟨h1, rfl⟩ := hy
    rw [if_pos ⟨h1, rfl⟩, if_pos ⟨h1, rfl⟩, Nat.one_mul]
  · rw [if_neg hy, if_neg fun h' => hy ⟨h'.1, (Prod.ext_iff.mp (Option.some.inj h'.2)).2⟩, Nat.zero_mul]

theorem bar_count : ∀ c : Dev nD, (∑ d : Dev nD, ((if c = nb d 0 then 1 else 0) + ((if c = nb d 1 then 1 else 0) + (if c = nb d 2 then 1 else 0)))) = 3 := by decide
set_option maxRecDepth 100000 in
set_option maxHeartbeats 2000000 in
theorem rcv_count : ∀ (c : Dev nD) (x : Fin 9), (∑ d : Dev nD, (order.map fun y => if c = par d y ∧ x = y then 1 else 0).sum) = 1 := by decide +kernel

theorem launch_bar (c : Dev nD) :
    tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, Finset.sum_congr rfl fun d _ => owed_bar d c, bar_count]
theorem launch_rcv (c : Dev nD) (x : Fin 9) :
    tallyOn (rcv c x) (launchCredit (Pipeline.owing O₀) 0 (rcv c x)) = (tallyAt (rcv c x) () (NN x) : CellTallies nD τ sig Unit) := by
  unfold tallyAt; refine congrArg _ (Finsupp.ext fun u => ?_); cases u
  rw [Pipeline.launchCredit_owing, Finsupp.single_eq_same, Finset.sum_congr rfl fun d _ => owed_rcv d c x, ← Finset.sum_mul, rcv_count, Nat.one_mul]

theorem creds (c : Dev nD) : (Pipeline.launchCred O₀ c : sProp 𝕄)
    ⊢ iprop(cred (tallyAt (bar c) () 3) ∗ bigSep Finset.univ fun x : Fin 9 => cred (tallyAt (rcv c x) () (NN x))) := by
  unfold Pipeline.launchCred
  refine (bigSep_subset (Finset.subset_univ (Finset.univ.map ⟨semOf, semOf_injective⟩))).trans ?_
  rw [bigSep_map, bigSep_cid]
  refine sep_mono (Entails.of_eq (congrArg cred (launch_bar c))) (sep_elim_right.trans (bigSep_mono fun x _ => Entails.of_eq (congrArg cred (launch_rcv c x))))

/-! ## A device's share -/

variable (m : (ℓ : Loc nD τ sig) → Buf (Elt F) ℓ) (ρ : Dev nD → PrngReg)

def s₀ : MemSt nD τ sig (Elt F) := ⟨m, fun _ => 0, ρ⟩

/-- A device's three operands. -/
def xv (c : Dev nD) : Vec F S2048x512 .bf16 := (win0_0.blk (0 : Fin 1)).view.read (Elt F) (m ((c : Thread nD τ).loc main_arg0))
def sv (c : Dev nD) : Vec F S8x2048x128 .bf16 := (win0_1.blk (0 : Fin 1)).view.read (Elt F) (m ((c : Thread nD τ).loc main_arg1))
def wv (c : Dev nD) : Vec F S4x512x1024 .bf16 := (win0_2.blk (0 : Fin 1)).view.read (Elt F) (m ((c : Thread nD τ).loc main_arg2))

abbrev recs (K : Dev nD × Cid → ℕ) : sProp 𝕄 := records m (wv m) K

/-- Positions and tokens, per device; with the records, what the cells are worth to it. -/
def linear (c : Dev nD) : sProp 𝕄 := iprop((bigSep Finset.univ fun k : Cid => atPos ER (cell c k) 0 ∅ 0) ∗ payToks c)
def G' (c : Dev nD) : sProp 𝕄 := iprop(∃ K, recs m K ∗ linear c)

def start (c : Dev nD) : sProp 𝕄 :=
  iprop((∃ K, recs m K) ∗ levAts L lv ∗ barKit c ∗ bigSep Finset.univ fun x : Fin 9 => kit c x)

theorem kits_intro (c : Dev nD) :
    iprop(linear c ∗ cred (tallyAt (bar c) () 3) ∗ bigSep Finset.univ fun x : Fin 9 => cred (tallyAt (rcv c x) () (NN x)))
      ⊢ (iprop(barKit c ∗ bigSep Finset.univ fun x : Fin 9 => kit c x) : sProp 𝕄) := by
  unfold linear barKit kit
  simp only [bigSep_sep']
  rw [bigSep_cid]
  iintro ⟨⟨⟨Hb, Hs, Hr⟩, Ht⟩, Hc, Hd⟩
  ihave Ht := (payToks_split c) $$ Ht
  icases Ht with ⟨Tb, Ts, Tr⟩
  iframe Tb Hb Hc Hs Hr Ts Tr Hd

def Φ₀ (c : Dev nD) : sProp 𝕄 := iprop(start m c ∗ scr c 0 ∗ scr c 1 ∗ scr c 2)
def Φ₁ (c : Dev nD) : sProp 𝕄 := iprop(semVal (bar c) 0 ∗ (bigSep Finset.univ fun x : Fin 9 => zero c x) ∗ scr c 0 ∗ scr c 1 ∗ scr c 2)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => sv m c
    | ⟨2, _⟩ => wv m c
    | ⟨3, _⟩ => outAt (wv m) c (sv m c) (xv m c)
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

def t₀ : Fin cfg0.N := t0_0
theorem fin_N (t : Fin cfg0.N) : t = t₀ := fin_N0 t

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop((dats m ρ 0 c).Φ t₀.castSucc ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
set_option maxRecDepth 4000 in
def bodyPost (c : Dev nD) : sProp 𝕄 :=
  iprop((dats m ρ 0 c).Φ t₀.succ ∗ (dats m ρ 0 c).owesAt () t₀.succ
    ∗ stg c cc0_stg0_0 ((dats m ρ 0 c).after (0 : Fin 4) t₀) ∗ stg c cc0_stg1_0 ((dats m ρ 0 c).after (1 : Fin 4) t₀)
    ∗ stg c cc0_stg2_0 ((dats m ρ 0 c).after (2 : Fin 4) t₀) ∗ stg c cc0_stg3_0 ((dats m ρ 0 c).after (3 : Fin 4) t₀))

theorem phi_end (c : Dev nD) : (dats m ρ 0 c).Φ t₀.succ = Φ₁ c := rfl
theorem after_x (c : Dev nD) : (dats m ρ 0 c).after (0 : Fin 4) t₀ = xv m c := rfl
theorem after_s (c : Dev nD) : (dats m ρ 0 c).after (1 : Fin 4) t₀ = sv m c := rfl
theorem after_w (c : Dev nD) : (dats m ρ 0 c).after (2 : Fin 4) t₀ = wv m c := rfl
theorem after_o (c : Dev nD) : (dats m ρ 0 c).after (3 : Fin 4) t₀ = outAt (wv m) c (sv m c) (xv m c) := by dsimp only [dats]
theorem before_x (c : Dev nD) (d) : (dats m ρ 0 c).before (0 : Fin 4) t₀ d = xv m c := by
  unfold Dat.before; rw [if_pos (fetch0_0 t₀)]; rfl
theorem before_s (c : Dev nD) (d) : (dats m ρ 0 c).before (1 : Fin 4) t₀ d = sv m c := by
  unfold Dat.before; rw [if_pos (fetch0_1 t₀)]; rfl
theorem before_w (c : Dev nD) (d) : (dats m ρ 0 c).before (2 : Fin 4) t₀ d = wv m c := by
  unfold Dat.before; rw [if_pos (fetch0_2 t₀)]; rfl

theorem sound_body (c : Dev nD) : bodyPre m ρ c ⊢ wpb c (bodyAt0 (F := F) (⟨0, by decide⟩ : Fin cfg0.N)) (fun _ => bodyPost m ρ c) := by
  rw [body_eq]
  unfold wpb
  rw [wp_deviceId]
  show _ ⊢ wpb c (prog c) (fun _ => bodyPost m ρ c)
  unfold bodyPre
  rw [show (dats m ρ 0 c).Φ t₀.castSucc = Φ₀ m c from rfl]
  unfold Φ₀ start Dat.owesAt Pipeline.owesWithin
  simp only [before_x, before_s, before_w]
  rw [bigSep_nine, show (dats m ρ 0 c).owed t₀.castSucc = owe (debts c) from rfl]
  iintro ⟨⟨⟨⟨%K, #HR⟩, #Hlev, Hb, Hk⟩, Hscr⟩, ⟨%V, -, HO⟩, ⟨%d0, %f0, %e0, Hx⟩, ⟨%d1, %f1, %e1, Hs⟩, ⟨%d2, %f2, %e2, Hw⟩, ⟨%d3, %f3, -, Ho⟩⟩
  subst e0 e1 e2
  iapply (wp_body m (wv m) K c (sv m c) (xv m c)) $$ [Hb Hk Hscr HO Hx Hs Hw Ho]
  · isplitr; · iexact HR
    isplitr; · iexact Hlev
    isplitl [HO]; · unfold ow; iexists V; iexact HO
    isplitl [Hb]; · iexact Hb
    isplitl [Hk]; · iexact Hk
    isplitl [Hscr]; · iexact Hscr
    isplitl [Hw]; · iexact Hw
    isplitl [Hx]; · iexact Hx
    isplitl [Hs]; · iexact Hs
    iexists f3; iexact Ho
  iintro ⟨HO, Hbar, Hz, Hscr, Hw, Hx, Hs, Ho⟩
  unfold wpb
  rw [wp_ret]; imodintro
  unfold bodyPost
  rw [phi_end, after_x, after_s, after_w, after_o]
  unfold Φ₁ Dat.owesAt Pipeline.owesWithin ow
  rw [bigSep_nine, show (dats m ρ 0 c).owed t₀.succ = owe [] from rfl]
  icases HO with ⟨%V', HO⟩
  isplitl [Hbar Hz Hscr]
  · isplitl [Hbar]; · iexact Hbar
    isplitl [Hz]; · iexact Hz
    iexact Hscr
  isplitl [HO]
  · iexists V'
    isplitr; · ipureintro; exact fun _ _ => Or.inl trivial
    iexact HO
  isplitl [Hx]
  · iexists _; isplitr; · (ipureintro; rfl)
    iexact Hx
  isplitl [Hs]
  · iexists _; isplitr; · (ipureintro; rfl)
    iexact Hs
  isplitl [Hw]
  · iexists _; isplitr; · (ipureintro; rfl)
    iexact Hw
  iexists _; isplitr; · (ipureintro; rfl)
  iexact Ho

theorem defs_body : defs₀ (F := F) Proc.tc (0 : Fin 1) (t₀, cfg0.slots t₀) = bodyAt0 (⟨0, by decide⟩ : Fin cfg0.N) := by chain_rfl

theorem sound_of (c : Dev nD) (p : P F PUnit) (h : p = bodyAt0 (⟨0, by decide⟩ : Fin cfg0.N)) :
    bodyPre m ρ c ⊢ wp frame (wpE (defs₀ (F := F)) 𝒱₀ (c : Thread nD τ) none) Set.univ p (fun _ => bodyPost m ρ c) := by
  rw [h]; exact sound_body m ρ c

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_of m ρ c _ defs_body

/-! ## The cells, allocated -/

def osem (bx : Bool × Fin 9) : SemLoc sig := semOf (some bx)
theorem ownSemFacts : Pipeline.OwnSemFacts cfg0.spec osem := by decide

theorem share_eq (c : Dev nD) (w : Fin cfg0.W) : (dats m ρ 0 c).share w = fullShare := by unfold Dat.share; split <;> rfl

abbrev states (c : Dev nD) : sProp 𝕄 := bigSep Finset.univ fun k : Cid => roundState ER (rd m (wv m)) (cell c k) 0
abbrev marks (c : Dev nD) : sProp 𝕄 := bigSep Finset.univ fun k : Cid => iprop(atPos ER (cell c k) 0 ∅ 0 ∗ reached ER (cell c k) 0)

def G (c : Dev nD) : sProp 𝕄 := iprop(states m c ∗ marks c ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cid => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro H
  imod (Rounds.fund ER (rd m (wv m)) allCells allToks) $$ H with ⟨Hst, Hr, Hat, Ht⟩
  imodintro
  ihave Hst := (Entails.of_eq (hX fun g => roundState ER (rd m (wv m)) g 0)) $$ Hst
  ihave Hat := (Entails.of_eq (hX fun g => atPos ER g 0 ∅ 0)) $$ Hat
  ihave Hr := (Entails.of_eq (hX fun g => reached ER g 0)) $$ Hr
  ihave Ht := (Entails.of_eq hT) $$ Ht
  unfold G states marks
  simp only [bigSep_sep']
  iframe Hst Hat Hr Ht

theorem semVals (c : Dev nD) :
    (bigSep Finset.univ fun k : Cid => (semVal (cell c k) 0 : sProp 𝕄))
      = iprop(semVal (bar c) 0 ∗ bigSep Finset.univ fun x : Fin 9 => zero c x) := by
  unfold zero
  rw [bigSep_cid, bigSep_sep']

theorem own_eq (c : Dev nD) : (Pipeline.ownSems0 (Ix := Unit) (Name := ℕ) (U := UU) (Lvl := ℕ) (Val := Elt F) (τ := τ) osem c : sProp 𝕄)
    = bigSep Finset.univ fun x : Fin 9 => zero c x := by
  unfold Pipeline.ownSems0 zero
  rw [bigSep_pairs, bigSep_sep']
  rfl
theorem unscoped_eq (c : Dev nD) : (unscopedSems0 c : sProp 𝕄) = semVal (bar c) 0 := by
  unfold unscopedSems0; rw [bigSep_eq_bigSepL_of_eq [SemLoc.reg barS] (by decide) (by decide)]; rfl

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cid => iprop(∃ κ : ℕ, cellInv ER (rd m (wv m)) κ (cell c k))) ∗ marks c ∗ toks c) := by
  have h : iprop((bigSep Finset.univ fun k : Cid => semVal (cell c k) 0) ∗ states m c)
      ⊢ (|={Set.univ}=> bigSep Finset.univ fun k : Cid => iprop(∃ κ : ℕ, cellInv ER (rd m (wv m)) κ (cell c k)) : sProp 𝕄) := by
    unfold states
    rw [← bigSep_sep']
    exact (bigSep_mono fun k _ => (Rounds.body_intro ER (rd m (wv m)) (cell c k)).trans inv_alloc).trans (bigSep_fupd _ _)
  rw [own_eq, unscoped_eq]
  unfold G
  iintro ⟨Hz, Hb, Hst, Hm, Ht⟩
  imod h $$ [Hz Hb Hst] with HI
  · rw [semVals]
    iframe Hb Hz Hst
  imodintro
  iframe HI Hm Ht

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cid => iprop(∃ κ : ℕ, cellInv ER (rd m (wv m)) κ (cell c k))) ∗ marks c ∗ toks c) : sProp 𝕄)
      ⊢ bigSep Finset.univ (G' m) := by
  unfold marks
  simp only [bigSep_sep']
  rw [toks_dealt, ← bigSep_univ_prod (fun ck : Dev nD × Cid => iprop(∃ κ : ℕ, cellInv ER (rd m (wv m)) κ (cell ck.1 ck.2))),
    ← bigSep_univ_prod (fun ck : Dev nD × Cid => (reached ER (cell ck.1 ck.2) 0 : sProp 𝕄))]
  iintro ⟨HI, ⟨Hat, #HR⟩, Ht⟩
  ihave HK := (BI.bigSep_exists_pi Finset.univ (fun (ck : Dev nD × Cid) (κ : ℕ) => (cellInv ER (rd m (wv m)) κ (cell ck.1 ck.2) : sProp 𝕄))) $$ HI
  icases HK with ⟨%K, #HI⟩
  iapply (share_out (R := recs m K) (Φ := linear) fun c _ => by
    unfold G'
    iintro H
    iexists K
    iexact H)
  isplitr
  · unfold recs records
    iframe HI HR
  · unfold linear
    rw [bigSep_sep']
    iframe Hat Ht

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, ⟨%K, HR, HG⟩⟩
  ihave Hc := (creds c) $$ Hcr
  icases Hc with ⟨H1, H2⟩
  ihave Hk := (kits_intro c) $$ [HG H1 H2]
  · iframe HG H1 H2
  icases Hk with ⟨Hb, Hk⟩
  imodintro
  isplitl
  · isplitl [HR]; · iexists K; iexact HR
    iframe Hlev Hb Hk
  · iempintro

theorem scr_eq (c : Dev nD) : (Pipeline.scopedRest cfg0.spec c : sProp 𝕄) = iprop(scr c 0 ∗ scr c 1 ∗ scr c 2) := scopedRest0_eq c

theorem phi_start (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, own_eq, unscoped_eq]
  exact BI.Entails.refl _

theorem staging_free (w : Fin cfg0.W) (s : Fin (cfg0.win w).nbuf) : ∀ k, semOf k ≠ .dma ((cfg0.win w).sem s) := by
  revert w s; decide

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((cfg0.win w).sem s)) () ≤ 0 := by
      unfold lv; rw [code_none (staging_free w s)]; exact Nat.le_refl 0
    rcases t with ⟨_ | _, ht⟩
    · refine mayWait c _ (debts c) 0 h0 fun p hp => ?_
      rcases List.mem_cons.mp hp with rfl | hp
      · exact ⟨rfl, by rw [lv_cell]; exact Nat.one_pos⟩
      rcases List.mem_cons.mp hp with rfl | hp
      · exact ⟨rfl, by rw [lv_cell]; exact Nat.one_pos⟩
      rcases List.mem_cons.mp hp with rfl | hp
      · exact ⟨rfl, by rw [lv_cell]; exact Nat.one_pos⟩
      exact debt_lv c order 0 (fun x _ => by omega) p hp
    · exact mayWait c _ [] 0 h0 fun p hp => absurd hp List.not_mem_nil

/-! ## The run -/

def finalA (c : Dev nD) (w : Fin cfg0.W) : Buf (Elt F) ((cfg0.win w).arr.view.loc (c : Thread nD τ)) := (dats m ρ 0 c).arrAt w cfg0.N

set_option maxRecDepth 8000 in
/-- Every weakly fair execution of the whole program ends, with the arrays as computed and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_start m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What it leaves -/

theorem final_in (c : Dev nD) (w : Fin cfg0.W) (h : (cfg0.win w).isOut = false) : finalA m ρ c w = m ((cfg0.win w).arr.view.loc (c : Thread nD τ)) :=
  (dats (F := F) m ρ 0 c).arrAt_in w h _

theorem final_out (c : Dev nD) :
    (win0_3.blk (0 : Fin 1)).view.read (Elt F) (finalA m ρ c (3 : Fin 4)) = outAt (wv m) c (sv m c) (xv m c) := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact (View.read_write_univ _ _).trans (after_o m ρ c)

end Cert.Cube

end
-- ==== Proof.Ref.Run.lean ====
/-
The run of the reference: a straight line of array operations on one device, and the value it ends with.
-/
module

public import proofs.«01_k».proof.Proof.Gen.ReferenceIdeal
public import Idealize.ShloMosaic.Lib.StableHlo.Run
public import Idealize.ShloMosaic.Lib.Quiescent

@[expose] public section

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F]

abbrev dotE := dot_S32x16384x512_S32x512x1024_S32x16384x1024_2_1_1_2_0_0

/-- Expert `e`'s selection of each row, from the selections as given. -/
def maskOf (sel : FVec F S8x16384x128 .bf16) : FVec F S32x16384 .f32 :=
  shapeCast S32x16384 (transpose S8x4x16384 [0, 2, 1]
    (extractStridedSlice S8x16384x4 ![0, 0, 0] (extf .f32 sel bitsLt_bf16_f32) slices_S8x16384x128_S8x16384x4_0_0_0)
    transposes_S8x16384x4_S8x4x16384_0_2_1) shapeCasts_S8x4x16384_S32x16384
/-- The rows as expert `e` sees them. -/
def chosenOf (x : FVec F S16384x512 .bf16) (sel : FVec F S8x16384x128 .bf16) : FVec F S32x16384x512 .f32 :=
  mulf
    (broadcastInDim S32x16384x512 ![0, 1, 2] bcast_S1x16384x512_S32x16384x512_0_1_2
      (broadcastInDim S1x16384x512 ![1, 2] bcast_S16384x512_S1x16384x512_1_2 (extf .f32 x bitsLt_bf16_f32)))
    (broadcastInDim S32x16384x512 ![0, 1, 2] bcast_S32x16384x1_S32x16384x512_0_1_2
      (broadcastInDim S32x16384x1 ![0, 1] bcast_S32x16384_S32x16384x1_0_1 (maskOf sel)))
/-- The reference's result. -/
def out (x : FVec F S16384x512 .bf16) (sel : FVec F S8x16384x128 .bf16) (w : FVec F S32x512x1024 .bf16) : FVec F S16384x1024 .bf16 :=
  truncf .bf16 (Host.reduceAdd (Host.dotGeneral dotE none (chosenOf x sel) (extf .f32 w bitsLt_bf16_f32))
    (constant S_ .f32 0x00000000#32) reducesTo_S32x16384x1024_S16384x1024_d0 h_S_) bitsLt_bf16_f32

abbrev ops : List (HloOp τ sig (Elt F)) :=
  [ unary main_arg0 main_v0 ((extf .f32 · bitsLt_bf16_f32) : (⟨S16384x512, .bf16⟩ : BufTy).Contents (Elt F) → (⟨S16384x512, .f32⟩ : BufTy).Contents (Elt F)),
    unary main_arg1 main_v1 ((extf .f32 · bitsLt_bf16_f32) : (⟨S8x16384x128, .bf16⟩ : BufTy).Contents (Elt F) → (⟨S8x16384x128, .f32⟩ : BufTy).Contents (Elt F)),
    unary main_arg2 main_v2 ((extf .f32 · bitsLt_bf16_f32) : (⟨S32x512x1024, .bf16⟩ : BufTy).Contents (Elt F) → (⟨S32x512x1024, .f32⟩ : BufTy).Contents (Elt F)),
    unary main_v1 main_v3 ((extractStridedSlice S8x16384x4 ![0, 0, 0] · slices_S8x16384x128_S8x16384x4_0_0_0) : (⟨S8x16384x128, .f32⟩ : BufTy).Contents (Elt F) → (⟨S8x16384x4, .f32⟩ : BufTy).Contents (Elt F)),
    unary main_v3 main_v4 ((transpose S8x4x16384 [0, 2, 1] · transposes_S8x16384x4_S8x4x16384_0_2_1) : (⟨S8x16384x4, .f32⟩ : BufTy).Contents (Elt F) → (⟨S8x4x16384, .f32⟩ : BufTy).Contents (Elt F)),
    StableHlo.reshape main_v4 main_v5 (rfl : (.f32 : EltTy) = .f32) shapeCasts_S8x4x16384_S32x16384,
    unary main_v0 main_v6 (broadcastInDim S1x16384x512 ![1, 2] bcast_S16384x512_S1x16384x512_1_2 : (⟨S16384x512, .f32⟩ : BufTy).Contents (Elt F) → (⟨S1x16384x512, .f32⟩ : BufTy).Contents (Elt F)),
    unary main_v5 main_v7 (broadcastInDim S32x16384x1 ![0, 1] bcast_S32x16384_S32x16384x1_0_1 : (⟨S32x16384, .f32⟩ : BufTy).Contents (Elt F) → (⟨S32x16384x1, .f32⟩ : BufTy).Contents (Elt F)),
    unary main_v6 main_v8 (broadcastInDim S32x16384x512 ![0, 1, 2] bcast_S1x16384x512_S32x16384x512_0_1_2 : (⟨S1x16384x512, .f32⟩ : BufTy).Contents (Elt F) → (⟨S32x16384x512, .f32⟩ : BufTy).Contents (Elt F)),
    unary main_v7 main_v9 (broadcastInDim S32x16384x512 ![0, 1, 2] bcast_S32x16384x1_S32x16384x512_0_1_2 : (⟨S32x16384x1, .f32⟩ : BufTy).Contents (Elt F) → (⟨S32x16384x512, .f32⟩ : BufTy).Contents (Elt F)),
    binary main_v8 main_v9 main_v10 (mulf : (⟨S32x16384x512, .f32⟩ : BufTy).Contents (Elt F) → (⟨S32x16384x512, .f32⟩ : BufTy).Contents (Elt F) → (⟨S32x16384x512, .f32⟩ : BufTy).Contents (Elt F)),
    binary main_v10 main_v2 main_v11 ((fun l r => Host.dotGeneral dotE none l r) : (⟨S32x16384x512, .f32⟩ : BufTy).Contents (Elt F) → (⟨S32x512x1024, .f32⟩ : BufTy).Contents (Elt F) → (⟨S32x16384x1024, .f32⟩ : BufTy).Contents (Elt F)),
    nullary main_cst (constant S_ .f32 0x00000000#32),
    binary main_v11 main_cst main_v12 ((fun x v => Host.reduceAdd x v reducesTo_S32x16384x1024_S16384x1024_d0 h_S_) : (⟨S32x16384x1024, .f32⟩ : BufTy).Contents (Elt F) → (⟨S_, .f32⟩ : BufTy).Contents (Elt F) → (⟨S16384x1024, .f32⟩ : BufTy).Contents (Elt F)),
    unary main_v12 main_v13 ((truncf .bf16 · bitsLt_bf16_f32) : (⟨S16384x1024, .f32⟩ : BufTy).Contents (Elt F) → (⟨S16384x1024, .bf16⟩ : BufTy).Contents (Elt F)) ]

theorem main_eq (c : Dev nD) : main (F := F) c = seq ops := rfl

theorem out_eq (V : Valuation τ sig (Elt F)) : after ops V (main_v13 : DevRef τ sig)
    = out (V (main_arg0 : DevRef τ sig)) (V (main_arg1 : DevRef τ sig)) (V (main_arg2 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub ..,
    unary_bufs_sub .., unary_bufs_sub .., unary_bufs_sub .., binary_bufs_sub .., binary_bufs_sub .., nullary_bufs_sub .., binary_bufs_sub ..,
    unary_bufs_sub ..⟩

/-- Every execution of the reference ends with `out` of its arguments in its result, the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono
    (fun _ h c => ⟨(h c main_v13).trans (out_eq _), (h c main_arg0).trans (arg0_eq _), (h c main_arg1).trans (arg1_eq _), (h c main_arg2).trans (arg2_eq _)⟩)
    (run_seq no_scoped_refs no_scoped_sems defs main (fun _ => ops) main_eq (fun _ => ops_sub) m ρ)

end Cert.Ref

end
-- ==== Proof.Cube.Frames.lean ====
/-
The frames. The two printings of the kernel are the same text, so the run proved of one is the run of the other.
-/
module

public import proofs.«01_k».proof.Defs
public import proofs.«01_k».proof.Proof.Cube.Launch
public import proofs.«01_k».proof.Proof.Ref.Run
public import proofs.«01_k».proof.Proof.Gen.Kernel

@[expose] public section

noncomputable section

namespace Cert.Cube

open Idealize.ShloMosaic Idealize.ShloMosaic.TcCoe Idealize.SL.Sem

section

open Cert.KernelIdeal Cert.KernelIdeal.Gen

variable {F : FTy → Type} [FloatOps F]

/-- The kernel ends, its arguments as they were, every counter at zero. -/
def Quiet (m : (ℓ : Loc nD τ sig) → Buf (Elt F) ℓ) (g : Dev nD → PrngReg) : Prop :=
  θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem quiet (m : (ℓ : Loc nD τ sig) → Buf (Elt F) ℓ) (g : Dev nD → PrngReg) : Quiet m g :=
  (θ_run defs _ _).mono
    (fun _ h => ⟨fun c => ⟨(h.1 c (0 : Fin 4)).trans (final_in m g c (0 : Fin 4) rfl), (h.1 c (1 : Fin 4)).trans (final_in m g c (1 : Fin 4) rfl),
      (h.1 c (2 : Fin 4)).trans (final_in m g c (2 : Fin 4) rfl)⟩, h.2⟩)
    (run_main m g)

end

theorem frame_kernel_ideal : Cert.quiescent_KernelIdeal := fun m g _ => quiet (F := Ideal) m g

theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.Ref.run_main (F := Ideal) m g)

/-! ## The other printing -/

theorem kernels_same : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  obtain ⟨l, hl⟩ := l
  obtain _ | l := l
  · obtain ⟨t, s⟩ := a
    rfl
  · exact absurd hl (Nat.not_lt.2 (Nat.le_add_left _ _))
theorem defs_same : Cert.Kernel.defs (F := Bits) = Cert.KernelIdeal.defs (F := Bits) :=
  congrArg (Pipeline.defs (nD := Cert.Kernel.nD) (τ := Cert.Kernel.τ) (sig := Cert.Kernel.sig) (Val := Elt Bits) (Λ₀ := Cert.Kernel.Λ₀) (Cert.Kernel.pcfgs (F := Bits))) kernels_same

theorem frame_kernel : Cert.quiescent_Kernel := fun m g _ => by
  have h := quiet (F := Bits) m g
  unfold Quiet at h
  rw [← defs_same] at h
  exact h

end Cert.Cube

end
-- ==== Proof.Cube.Pay.lean ====
/-
What one accumulation adds, at an index, over the extended reals.
-/
module

public import proofs.«01_k».proof.Proof.Cube.Body
public import Idealize.ShloMosaic.Lib.Pointwise

@[expose] public section

noncomputable section

namespace Cert.Cube

open Cert.KernelIdeal Cert.KernelIdeal.Gen
open Idealize.ShloMosaic

theorem chosen_apply (sel : Vec Ideal S1x2048x128 .bf16) (j : Fin 4) (x : Vec Ideal S2048x512 .bf16) (r : Fin 2048) (q : Fin 512) :
    chosen sel j x (ix2 r q) = x (ix2 r q) * sel (ix3 0 r (⟨j.val, by have := j.isLt; omega⟩ : Fin 128)) := by
  fin_cases j <;> pointwise [chosen]

theorem addAll_apply (sel : Vec Ideal S1x2048x128 .bf16) (j : Fin 4) (o : Vec Ideal S2048x1024 .bf16) (x : Vec Ideal S2048x512 .bf16) (b : Vec Ideal S1x512x1024 .bf16)
    (r : Fin 2048) (n : Fin 1024) :
    addAll sel j o x b (ix2 r n) = o (ix2 r n) + ∑ q : Fin 512, chosen sel j x (ix2 r q) * b (ix3 0 q n) := by
  pointwise [addAll]

theorem add_apply (t : Fin 3) (sel : Vec Ideal S1x2048x128 .bf16) (j : Fin 4) (o : Vec Ideal (SO (tl (F := Ideal) t).w) .bf16) (x : Vec Ideal S2048x512 .bf16)
    (b : Vec Ideal (SP (tl (F := Ideal) t).w) .bf16) (r : Fin 2048) (n : Fin (tl (F := Ideal) t).w) :
    (tl (F := Ideal) t).add sel j o x b (ix2 r n) = o (ix2 r n) + ∑ q : Fin 512, chosen sel j x (ix2 r q) * b (ix4 0 0 q n) := by
  match t with
  | 0 => change Vec Ideal (SO 384) .bf16 at o; change Vec Ideal (SP 384) .bf16 at b; change Fin 384 at n; pointwise [Tile.add, tl, T0]
  | 1 => change Vec Ideal (SO 384) .bf16 at o; change Vec Ideal (SP 384) .bf16 at b; change Fin 384 at n; pointwise [Tile.add, tl, T1]
  | 2 => change Vec Ideal (SO 256) .bf16 at o; change Vec Ideal (SP 256) .bf16 at b; change Fin 256 at n; pointwise [Tile.add, tl, T2]

end Cert.Cube
-- ==== Proof.Cube.Value.lean ====
/-
The result buffer after the body, at an index, over the extended reals: every device's four experts added up, each once.
-/
module

public import proofs.«01_k».proof.Proof.Cube.Pay

@[expose] public section

noncomputable section

namespace Cert.Cube

open Cert.KernelIdeal Cert.KernelIdeal.Gen
open Idealize.ShloMosaic

/-- Tile `t`'s columns, and a column of the tile as a column of the result. -/
abbrev wT (t : Fin 3) : ℕ := (tl (F := Ideal) t).w
abbrev loT (t : Fin 3) : ℕ := (tl (F := Ideal) t).lo
def col (t : Fin 3) (n : Fin (wT t)) : Fin 1024 := ⟨loT t + n.val, lt_of_lt_of_le (Nat.add_lt_add_left n.isLt _) (tl (F := Ideal) t).hlo⟩

/-- The widths and first columns of the three tiles. -/
theorem span (t : Fin 3) : (t = 0 → loT t = 0 ∧ wT t = 384) ∧ (t = 1 → loT t = 384 ∧ wT t = 384) ∧ (t = 2 → loT t = 768 ∧ wT t = 256) := by
  fin_cases t <;> exact ⟨by first | exact fun _ => ⟨rfl, rfl⟩ | exact fun h => absurd h (by decide), by first | exact fun _ => ⟨rfl, rfl⟩ | exact fun h => absurd h (by decide),
    by first | exact fun _ => ⟨rfl, rfl⟩ | exact fun h => absurd h (by decide)⟩

/-- Every column is in one tile. -/
theorem exists_col (n : Fin 1024) : ∃ t, ∃ n' : Fin (wT t), n = col t n' := by
  have hn := n.isLt
  by_cases h0 : n.val < 384
  · exact ⟨0, ⟨n.val, h0⟩, Fin.ext (Nat.zero_add _).symm⟩
  by_cases h1 : n.val < 768
  · exact ⟨1, ⟨n.val - 384, show n.val - 384 < 384 by omega⟩, Fin.ext (show n.val = 384 + (n.val - 384) by omega)⟩
  · exact ⟨2, ⟨n.val - 768, show n.val - 768 < 256 by omega⟩, Fin.ext (show n.val = 768 + (n.val - 768) by omega)⟩

/-- Two tiles have no column in common. -/
theorem col_apart {t u : Fin 3} (h : u ≠ t) (n : Fin (wT t)) : (col t n).val < loT u ∨ loT u + wT u ≤ (col t n).val := by
  have hn := n.isLt
  have ht := span t
  have hu := span u
  show loT t + n.val < loT u ∨ loT u + wT u ≤ loT t + n.val
  rcases t with ⟨_ | _ | _ | t, h1⟩ <;> rcases u with ⟨_ | _ | _ | u, h2⟩ <;> first | omega | exact absurd rfl h | skip
  all_goals
    obtain ⟨a, b⟩ := (by first | exact ht.1 rfl | exact ht.2.1 rfl | exact ht.2.2 rfl : loT _ = _ ∧ wT _ = _)
    obtain ⟨a', b'⟩ := (by first | exact hu.1 rfl | exact hu.2.1 rfl | exact hu.2.2 rfl : loT _ = _ ∧ wT _ = _)
    omega

/-! ## One accumulation into a tile -/

theorem rO_emb (t : Fin 3) (r : Fin 2048) (n : Fin (wT t)) : (tl (F := Ideal) t).rO.emb (ix2 r n) = ix2 r (col t n) := by
  funext a
  refine Fin.ext ?_
  match a with
  | ⟨0, _⟩ => exact (congrArg (0 + ·) (Nat.one_mul _)).trans (Nat.zero_add _)
  | ⟨1, _⟩ => exact congrArg (loT t + ·) (Nat.one_mul _)

/-- Where an accumulation writes it leaves what it computed, and elsewhere what was there. -/
theorem accS_emb {s : Shape} {rO : Rect S2048x1024} (pay : Vec Ideal rO.shape .bf16 → Vec Ideal S2048x512 .bf16 → Vec Ideal s .bf16 → Vec Ideal rO.shape .bf16)
    (x : Vec Ideal S2048x512 .bf16) (b : Vec Ideal s .bf16) (f : Vec Ideal S2048x1024 .bf16) (i : rO.shape.Idx) :
    accS rO pay x b f (rO.emb i) = pay (fun i => f (rO.emb i)) x b i :=
  View.read_slice_write_emb (Val := Elt Ideal) (v := oM.view) rO f (pay (fun i => f (rO.emb i)) x b) (Finset.mem_univ i)
theorem accS_keep {s : Shape} {rO : Rect S2048x1024} (pay : Vec Ideal rO.shape .bf16 → Vec Ideal S2048x512 .bf16 → Vec Ideal s .bf16 → Vec Ideal rO.shape .bf16)
    (x : Vec Ideal S2048x512 .bf16) (b : Vec Ideal s .bf16) (f : Vec Ideal S2048x1024 .bf16) (y : S2048x1024.Idx) (h : ∀ i, rO.emb i ≠ y) :
    accS rO pay x b f y = f y :=
  View.read_slice_write_of_not_mem (Val := Elt Ideal) (v := oM.view) rO f (pay (fun i => f (rO.emb i)) x b) Finset.univ (y := y) fun hm => by
    obtain ⟨i, -, hi⟩ := Finset.mem_map.mp hm
    exact h i hi

/-- A column of the tile gets what is written there. -/
theorem accS_col {s : Shape} (t : Fin 3) (pay : Vec Ideal (SO (wT t)) .bf16 → Vec Ideal S2048x512 .bf16 → Vec Ideal s .bf16 → Vec Ideal (SO (wT t)) .bf16)
    (x : Vec Ideal S2048x512 .bf16) (b : Vec Ideal s .bf16) (f : Vec Ideal S2048x1024 .bf16) (r : Fin 2048) (n : Fin (wT t)) :
    accS (tl (F := Ideal) t).rO pay x b f (ix2 r (col t n)) = pay (fun i => f ((tl (F := Ideal) t).rO.emb i)) x b (ix2 r n) :=
  (congrArg (accS (tl (F := Ideal) t).rO pay x b f) (rO_emb t r n).symm).trans (accS_emb (rO := (tl (F := Ideal) t).rO) pay x b f (ix2 r n))

/-- A column outside the tile stays as it was. -/
theorem accS_off {s : Shape} (t : Fin 3) (pay : Vec Ideal (SO (wT t)) .bf16 → Vec Ideal S2048x512 .bf16 → Vec Ideal s .bf16 → Vec Ideal (SO (wT t)) .bf16)
    (x : Vec Ideal S2048x512 .bf16) (b : Vec Ideal s .bf16) (f : Vec Ideal S2048x1024 .bf16) (r : Fin 2048) (n : Fin 1024)
    (h : n.val < loT t ∨ loT t + wT t ≤ n.val) : accS (tl (F := Ideal) t).rO pay x b f (ix2 r n) = f (ix2 r n) :=
  accS_keep (rO := (tl (F := Ideal) t).rO) pay x b f (ix2 r n) fun i hi => by
    have h1 : loT t + 1 * (i 1).val = n.val := congrArg Fin.val (congrFun hi 1)
    have h2 : (i 1).val < wT t := (i 1).isLt
    omega

/-! ## The terms -/

variable (W : WV Ideal) (sel : Vec Ideal S8x2048x128 .bf16) (x : Vec Ideal S2048x512 .bf16)

/-- Device `d`'s expert `j`, at row `r` and column `n` of the result. -/
def term (r : Fin 2048) (n : Fin 1024) (d : Dev nD) (j : Fin 4) : EReal :=
  ∑ q : Fin 512, x (ix2 r q) * sel (ix3 (⟨d.val, d.isLt⟩ : Fin 8) r (⟨j.val, by have := j.isLt; omega⟩ : Fin 128)) * W d (ix3 j q n)
/-- Device `d`'s four experts. -/
def four (r : Fin 2048) (n : Fin 1024) (d : Dev nD) : EReal := ∑ j : Fin 4, term W sel x r n d j

theorem selAt_apply (d : Dev nD) (r : Fin 2048) (l : Fin 128) : selAt sel d (ix3 0 r l) = sel (ix3 (⟨d.val, d.isLt⟩ : Fin 8) r l) := by
  refine congrArg sel (funext fun a => Fin.ext ?_)
  match a with
  | ⟨0, _⟩ => rfl
  | ⟨1, _⟩ => exact (congrArg (0 + ·) (Nat.one_mul _)).trans (Nat.zero_add _)
  | ⟨2, _⟩ => exact (congrArg (0 + ·) (Nat.one_mul _)).trans (Nat.zero_add _)

/-- The weights in a slot, at a column of the tile, are the sender's at that column of the result. -/
theorem gat_apply (t : Fin 3) (c : Dev nD) (k : Fin 8) (j : Fin 4) (q : Fin 512) (n : Fin (wT t)) :
    gat W t c ((rP (wT t) k j).emb (ix4 0 0 q n)) = W (org t c k.val) (ix3 j q (col t n)) := by
  have hk : ((rP (wT t) k j).emb (ix4 0 0 q n) 0).val = k.val := rfl
  unfold gat
  rw [hk]
  refine congrArg (W (org t c k.val)) (funext fun a => Fin.ext ?_)
  match a with
  | ⟨0, _⟩ => rfl
  | ⟨1, _⟩ => exact (congrArg (0 + ·) (Nat.one_mul _)).trans (Nat.zero_add _)
  | ⟨2, _⟩ => exact congrArg (loT t + ·) ((congrArg (0 + ·) (Nat.one_mul _)).trans (Nat.zero_add _))

theorem expS_col (t : Fin 3) (c : Dev nD) (k : Fin 8) (j : Fin 4) (f : Vec Ideal S2048x1024 .bf16) (r : Fin 2048) (n : Fin (wT t)) :
    expS W t c sel x k j f (ix2 r (col t n)) = f (ix2 r (col t n)) + term W sel x r (col t n) (org t c k.val) j := by
  unfold expS
  rw [accS_col, add_apply, rO_emb]
  refine congrArg (f (ix2 r (col t n)) + ·) (Finset.sum_congr rfl fun q _ => ?_)
  rw [chosen_apply, selAt_apply, gat_apply]

theorem slotS_col (t : Fin 3) (c : Dev nD) (k : Fin 8) (f : Vec Ideal S2048x1024 .bf16) (r : Fin 2048) (n : Fin (wT t)) :
    slotS W t c sel x k f (ix2 r (col t n)) = f (ix2 r (col t n)) + four W sel x r (col t n) (org t c k.val) := by
  unfold slotS four
  rw [expS_col, expS_col, expS_col, expS_col, Fin.sum_univ_four]
  simp only [add_assoc]

theorem slotS_off (t : Fin 3) (c : Dev nD) (k : Fin 8) (f : Vec Ideal S2048x1024 .bf16) (r : Fin 2048) (n : Fin 1024)
    (h : n.val < loT t ∨ loT t + wT t ≤ n.val) : slotS W t c sel x k f (ix2 r n) = f (ix2 r n) := by
  unfold slotS expS
  rw [accS_off _ _ _ _ _ _ _ h, accS_off _ _ _ _ _ _ _ h, accS_off _ _ _ _ _ _ _ h, accS_off _ _ _ _ _ _ _ h]

theorem slotsS_col (t : Fin 3) (c : Dev nD) (s m : ℕ) (hm : s + m ≤ 8) (f : Vec Ideal S2048x1024 .bf16) (r : Fin 2048) (n : Fin (wT t)) :
    slotsS W t c sel x s m f (ix2 r (col t n)) = f (ix2 r (col t n)) + ∑ i ∈ Finset.range m, four W sel x r (col t n) (org t c (s + i)) := by
  induction m with
  | zero => exact (add_zero _).symm
  | succ m ih =>
    rw [slotsS, slotS_col, ih (by omega), Finset.sum_range_succ, add_assoc]
    simp only [Nat.mod_eq_of_lt (show s + m < 8 by omega)]

theorem slotsS_off (t : Fin 3) (c : Dev nD) (s m : ℕ) (f : Vec Ideal S2048x1024 .bf16) (r : Fin 2048) (n : Fin 1024)
    (h : n.val < loT t ∨ loT t + wT t ≤ n.val) : slotsS W t c sel x s m f (ix2 r n) = f (ix2 r n) := by
  induction m with
  | zero => rfl
  | succ m ih => rw [slotsS, slotS_off _ _ _ _ _ _ _ _ _ h, ih]

/-! ## The device's own experts -/

theorem accS_all {s : Shape} (pay : Vec Ideal S2048x1024 .bf16 → Vec Ideal S2048x512 .bf16 → Vec Ideal s .bf16 → Vec Ideal S2048x1024 .bf16)
    (b : Vec Ideal s .bf16) (f : Vec Ideal S2048x1024 .bf16) : accS rAll pay x b f = pay f x b :=
  have hz : (![0, 0] : Fin 2 → ℕ) = fun _ => 0 := funext fun a => by fin_cases a <;> rfl
  (Memref.write_access_unit_zero_univ (Elt Ideal) cc0_stg3_0 hz _ f _).trans
    (congrArg (fun o => pay o x b) (Memref.readAt_unit_zero (Elt Ideal) cc0_stg3_0 hz _ f))

theorem ownP_apply (w : Vec Ideal S4x512x1024 .bf16) (j : Fin 4) (q : Fin 512) (n : Fin 1024) : ownP w j (ix3 0 q n) = w (ix3 j q n) := by
  refine congrArg w (funext fun a => Fin.ext ?_)
  match a with
  | ⟨0, _⟩ => rfl
  | ⟨1, _⟩ => exact (congrArg (0 + ·) (Nat.one_mul _)).trans (Nat.zero_add _)
  | ⟨2, _⟩ => exact (congrArg (0 + ·) (Nat.one_mul _)).trans (Nat.zero_add _)

theorem ownE_apply (c : Dev nD) (j : Fin 4) (f : Vec Ideal S2048x1024 .bf16) (r : Fin 2048) (n : Fin 1024) :
    ownE W c sel x j f (ix2 r n) = f (ix2 r n) + term W sel x r n c j := by
  unfold ownE
  rw [accS_all, addAll_apply]
  refine congrArg (f (ix2 r n) + ·) (Finset.sum_congr rfl fun q _ => ?_)
  rw [chosen_apply, selAt_apply, ownP_apply]

theorem zeros_apply (r : Fin 2048) (n : Fin 1024) : k0_pay58 (F := Ideal) (ix2 r n) = 0 := by
  pointwise [k0_pay58]

theorem ownS_apply (c : Dev nD) (r : Fin 2048) (n : Fin 1024) : ownS W c sel x (ix2 r n) = four W sel x r n c := by
  unfold ownS four
  rw [ownE_apply, ownE_apply, ownE_apply, ownE_apply, zeros_apply, Fin.sum_univ_four, zero_add]

/-! ## The whole result -/

/-- The slots of a tile hold every device's weights once, so their sum is the sum over the devices. -/
theorem sum_slots (t : Fin 3) (c : Dev nD) (g : Dev nD → EReal) :
    g c + g (org t c 1) + ∑ i ∈ Finset.range 2, g (org t c (2 + i)) + ∑ i ∈ Finset.range 4, g (org t c (4 + i)) = ∑ d : Dev nD, g d := by
  rw [← (Equiv.ofBijective _ (org_bijective t c)).sum_comp g]
  show _ = ∑ k : Fin 8, g (org t c k.val)
  rw [Finset.sum_range fun k => g (org t c (2 + k)), Finset.sum_range fun k => g (org t c (4 + k)), Fin.sum_univ_two, Fin.sum_univ_four, Fin.sum_univ_eight]
  simp only [Fin.isValue, Fin.val_zero, Fin.val_one, Fin.val_two, Nat.add_zero]
  show g c + g (org t c 1) + (g (org t c 2) + g (org t c 3)) + (g (org t c 4) + g (org t c 5) + g (org t c 6) + g (org t c 7))
    = g (org t c 0) + g (org t c 1) + g (org t c 2) + g (org t c 3) + g (org t c 4) + g (org t c 5) + g (org t c 6) + g (org t c 7)
  rw [org_zero]
  simp only [add_assoc]

theorem outAt_apply (c : Dev nD) (r : Fin 2048) (n : Fin 1024) : outAt W c sel x (ix2 r n) = ∑ d : Dev nD, four W sel x r n d := by
  obtain ⟨t, n', rfl⟩ := exists_col n
  have off {u : Fin 3} (h : u ≠ t) := col_apart h n'
  rw [← sum_slots t c, outAt]
  match t with
  | 0 =>
    rw [slotsS_off _ _ _ 1 _ _ _ _ _ _ (off (by decide)), slotsS_col _ _ _ _ _ _ _ (by decide), slotsS_off _ _ _ 2 _ _ _ _ _ _ (off (by decide)),
      slotsS_off _ _ _ 1 _ _ _ _ _ _ (off (by decide)), slotsS_col _ _ _ _ _ _ _ (by decide), slotsS_off _ _ _ 2 _ _ _ _ _ _ (off (by decide)),
      slotS_off _ _ _ 1 _ _ _ _ _ (off (by decide)), slotS_col, slotS_off _ _ _ 2 _ _ _ _ _ (off (by decide)), ownS_apply]
    rfl
  | 1 =>
    rw [slotsS_col _ _ _ _ _ _ _ (by decide), slotsS_off _ _ _ 0 _ _ _ _ _ _ (off (by decide)), slotsS_off _ _ _ 2 _ _ _ _ _ _ (off (by decide)),
      slotsS_col _ _ _ _ _ _ _ (by decide), slotsS_off _ _ _ 0 _ _ _ _ _ _ (off (by decide)), slotsS_off _ _ _ 2 _ _ _ _ _ _ (off (by decide)),
      slotS_col, slotS_off _ _ _ 0 _ _ _ _ _ (off (by decide)), slotS_off _ _ _ 2 _ _ _ _ _ (off (by decide)), ownS_apply]
    rfl
  | 2 =>
    rw [slotsS_off _ _ _ 1 _ _ _ _ _ _ (off (by decide)), slotsS_off _ _ _ 0 _ _ _ _ _ _ (off (by decide)), slotsS_col _ _ _ _ _ _ _ (by decide),
      slotsS_off _ _ _ 1 _ _ _ _ _ _ (off (by decide)), slotsS_off _ _ _ 0 _ _ _ _ _ _ (off (by decide)), slotsS_col _ _ _ _ _ _ _ (by decide),
      slotS_off _ _ _ 1 _ _ _ _ _ (off (by decide)), slotS_off _ _ _ 0 _ _ _ _ _ (off (by decide)), slotS_col, ownS_apply]
    rfl

end Cert.Cube
-- ==== Proof.Ref.Value.lean ====
/-
The reference's result at an index, over the extended reals.
-/
module

public import proofs.«01_k».proof.Proof.Ref.Run
public import Idealize.ShloMosaic.Lib.Pointwise

@[expose] public section

noncomputable section

namespace Cert.Ref

open Cert.ReferenceIdeal Cert.ReferenceIdeal.Gen
open Idealize.ShloMosaic

/-- Expert `e`'s selection of row `r` is lane `e mod 4` of group `e / 4`. -/
theorem maskOf_apply (sel : FVec Ideal S8x16384x128 .bf16) (e : Fin 32) (r : Fin 16384) :
    maskOf sel (ix2 e r) = sel (ix3 (⟨e.val / 4, by have := e.isLt; omega⟩ : Fin 8) r (⟨e.val % 4, by have := e.isLt; omega⟩ : Fin 128)) := by
  pointwise [maskOf]

/-- The result at row `r` and column `n`: every expert's product of the row selected for it, added up. -/
theorem out_apply (x : FVec Ideal S16384x512 .bf16) (sel : FVec Ideal S8x16384x128 .bf16) (w : FVec Ideal S32x512x1024 .bf16) (r : Fin 16384) (n : Fin 1024) :
    out x sel w (ix2 r n) = ∑ e : Fin 32, ∑ q : Fin 512, x (ix2 r q) * maskOf sel (ix2 e r) * w (ix3 e q n) := by
  pointwise [out, chosenOf, dotE]

end Cert.Ref
-- ==== Proof.Cube.Algebraic.lean ====
/-
The kernel's result on device `c` is block `c` of the reference's.
-/
module

public import proofs.«01_k».proof.Defs
public import proofs.«01_k».proof.Proof.Cube.Launch
public import proofs.«01_k».proof.Proof.Cube.Value
public import proofs.«01_k».proof.Proof.Ref.Value
public import Idealize.ShloMosaic.Lib.Layout

@[expose] public section

noncomputable section

namespace Cert.Cube

open Cert.KernelIdeal Cert.KernelIdeal.Gen
open Idealize.ShloMosaic Idealize.ShloMosaic.TcCoe Idealize.SL.Sem

abbrev X1 : Shape := ⟨2, ![16384, 512]⟩
abbrev X2 : Shape := ⟨3, ![8, 16384, 128]⟩
abbrev X3 : Shape := ⟨3, ![32, 512, 1024]⟩
abbrev X4 : Shape := ⟨2, ![16384, 1024]⟩

/-- Row `r` of block `c` of the tokens, and expert `j` of device `d`, among all. -/
def row (c : Fin 8) (r : Fin 2048) : Fin 16384 := ⟨c.val * 2048 + r.val, by have := c.isLt; have := r.isLt; omega⟩
def expert (d : Fin 8) (j : Fin 4) : Fin 32 := ⟨d.val * 4 + j.val, by have := d.isLt; have := j.isLt; omega⟩

variable {α : Type}

theorem block_x (c : Fin 8) (v : X1.Idx → α) (r : Fin 2048) (q : Fin 512) : (Layout.block S2048x512 X1 0 8 c v) (ix2 r q) = v (ix2 (row c r) q) :=
  congrArg v (funext fun a => Fin.ext (match a with | ⟨0, _⟩ => rfl | ⟨1, _⟩ => rfl))
theorem block_s (c : Fin 8) (v : X2.Idx → α) (d : Fin 8) (r : Fin 2048) (l : Fin 128) : (Layout.block S8x2048x128 X2 1 8 c v) (ix3 d r l) = v (ix3 d (row c r) l) :=
  congrArg v (funext fun a => Fin.ext (match a with | ⟨0, _⟩ => rfl | ⟨1, _⟩ => rfl | ⟨2, _⟩ => rfl))
theorem block_w (d : Fin 8) (v : X3.Idx → α) (j : Fin 4) (q : Fin 512) (n : Fin 1024) : (Layout.block S4x512x1024 X3 0 8 d v) (ix3 j q n) = v (ix3 (expert d j) q n) :=
  congrArg v (funext fun a => Fin.ext (match a with | ⟨0, _⟩ => rfl | ⟨1, _⟩ => rfl | ⟨2, _⟩ => rfl))
theorem block_o (c : Fin 8) (v : X4.Idx → α) (r : Fin 2048) (n : Fin 1024) : (Layout.block S2048x1024 X4 0 8 c v) (ix2 r n) = v (ix2 (row c r) n) :=
  congrArg v (funext fun a => Fin.ext (match a with | ⟨0, _⟩ => rfl | ⟨1, _⟩ => rfl))

/-- A sum over all experts is the sum over the devices of the sums over each one's four. -/
theorem sum_experts (g : Fin 32 → EReal) : ∑ e : Fin 32, g e = ∑ d : Fin 8, ∑ j : Fin 4, g (expert d j) := by
  rw [← (finProdFinEquiv (m := 8) (n := 4)).sum_comp g, Fintype.sum_prod_type]
  refine Finset.sum_congr rfl fun d _ => Finset.sum_congr rfl fun j _ => congrArg g (Fin.ext ?_)
  show j.val + 4 * d.val = d.val * 4 + j.val
  omega

/-- With the operands blocks of the reference's, the result is that block of the reference's. -/
theorem outAt_block (X : FVec Ideal X1 .bf16) (S : FVec Ideal X2 .bf16) (V : FVec Ideal X3 .bf16) (c : Dev nD) :
    outAt (F := Ideal) (fun d => Layout.block S4x512x1024 X3 0 8 d V) c (Layout.block S8x2048x128 X2 1 8 c S) (Layout.block S2048x512 X1 0 8 c X)
      = Layout.block S2048x1024 X4 0 8 c (Cert.Ref.out X S V) := by
  funext i
  obtain ⟨r, n, rfl⟩ : ∃ (r : Fin 2048) (n : Fin 1024), i = ix2 r n := ⟨i 0, i 1, funext fun a => match a with | ⟨0, _⟩ => rfl | ⟨1, _⟩ => rfl⟩
  rw [outAt_apply, block_o, Cert.Ref.out_apply, sum_experts]
  refine Finset.sum_congr rfl fun d _ => Finset.sum_congr rfl fun j _ => Finset.sum_congr rfl fun q _ => ?_
  rw [block_x, block_s, show (fun d => Layout.block S4x512x1024 X3 0 8 d V) d (ix3 j q n) = V (ix3 (expert d j) q n) from block_w d V j q n, Cert.Ref.maskOf_apply]
  have h1 : (expert d j).val / 4 = d.val := by have := j.isLt; show (d.val * 4 + j.val) / 4 = d.val; omega
  have h2 : (expert d j).val % 4 = j.val := by have := j.isLt; show (d.val * 4 + j.val) % 4 = j.val; omega
  simp only [h1, h2]

/-- The kernel at the reference's operands' blocks ends with the reference's result's blocks. -/
theorem algebraic : Cert.algebraic_KernelIdeal_ReferenceIdeal := by
  intro m ρ m' ρ' _ hagree
  refine ⟨Cert.Ref.out (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · refine (θ_run defs _ _).mono
      (fun _ h c => ⟨(h.1 c (3 : Fin 4)).trans ?_, (h.1 c (0 : Fin 4)).trans (final_in m ρ c 0 rfl), (h.1 c (1 : Fin 4)).trans (final_in m ρ c 1 rfl),
        (h.1 c (2 : Fin 4)).trans (final_in m ρ c 2 rfl)⟩)
      (run_main (F := Ideal) m ρ)
    -- each window's one block is its whole array, so reading it reads the array
    have z0 : (fun a => (win0_0.index (0 : Fin 1)) a * main_arg0.ty.shape.size a) = fun _ => 0 := funext fun a => by fin_cases a <;> decide
    have z1 : (fun a => (win0_1.index (0 : Fin 1)) a * main_arg1.ty.shape.size a) = fun _ => 0 := funext fun a => by fin_cases a <;> decide
    have z2 : (fun a => (win0_2.index (0 : Fin 1)) a * main_arg2.ty.shape.size a) = fun _ => 0 := funext fun a => by fin_cases a <;> decide
    have z3 : (fun a => (win0_3.index (0 : Fin 1)) a * main_v1.ty.shape.size a) = fun _ => 0 := funext fun a => by fin_cases a <;> decide
    have hx : ∀ d, xv m d = m ((d : Thread nD τ).loc main_arg0) := fun d => Memref.read_access_unit_zero (Elt Ideal) main_arg0 z0 (fun a => by fin_cases a <;> decide) _
    have hs : ∀ d, sv m d = m ((d : Thread nD τ).loc main_arg1) := fun d => Memref.read_access_unit_zero (Elt Ideal) main_arg1 z1 (fun a => by fin_cases a <;> decide) _
    have hw : ∀ d, wv m d = m ((d : Thread nD τ).loc main_arg2) := fun d => Memref.read_access_unit_zero (Elt Ideal) main_arg2 z2 (fun a => by fin_cases a <;> decide) _
    have ho := (Memref.read_access_unit_zero (Elt Ideal) main_v1 z3 (fun a => by fin_cases a <;> decide) _).symm.trans (final_out (F := Ideal) m ρ c)
    rw [hx, hs, (hagree c).1, (hagree c).2.1, show wv m = _ from funext fun d => (hw d).trans (hagree d).2.2] at ho
    exact ho.trans (outAt_block _ _ _ c)
  · exact (θ_run Cert.ReferenceIdeal.defs _ _).mono (fun _ h => h 0) (Cert.Ref.run_main (F := Ideal) m' ρ')

end Cert.Cube
-- ==== Proof.Cnt.Facts.lean ====
/-
The side conditions the two printings of the counts call state, and the devices and rows its integer chains name.
-/
module

public import proofs.«01_k».proof.Counts
public import proofs.«01_k».proof.CountsIdeal
public import proofs.«01_k».proof.CountsReferenceIdeal
public import Idealize.ShloMosaic.Lib.Decide

@[expose] public section

namespace Cert.Cnt

open Idealize.ShloMosaic Idealize.SL.Sem

section

open Cert.CountsIdeal

theorem inb7 (k : Fin 7) : ∀ a, (![k.val] : Fin 1 → ℕ) a + S1.size a ≤ S7.size a := fun a => by revert k a; decide

theorem dev1_lt : ∀ d : Dev nD, k0_dev1 d < nD := by decide +kernel
theorem dev2_lt : ∀ d : Dev nD, k0_dev2 d < nD := by decide +kernel
theorem dev3_lt : ∀ d : Dev nD, k0_dev3 d < nD := by decide +kernel
theorem dev4_lt : ∀ d : Dev nD, k0_dev4 d < nD := by decide +kernel
theorem dev5_lt : ∀ d : Dev nD, k0_dev5 d < nD := by decide +kernel
theorem dev6_lt : ∀ d : Dev nD, k0_dev6 d < nD := by decide +kernel
theorem dev7_lt : ∀ d : Dev nD, k0_dev7 d < nD := by decide +kernel

theorem off1_eq : ∀ d : Dev nD, k0_off1 d = ![d.val, 0] := by decide +kernel
theorem off2_eq : ∀ d : Dev nD, k0_off2 d = ![d.val, 0] := by decide +kernel
/-- The row the `k`-th arrival is waited for in: the row of the device `k + 1` places before. -/
theorem off3_eq : ∀ (d : Dev nD) (k : Fin 7), k0_off3 d (BitVec.ofNat 32 (1 + k.val)) = ![(d.val + (7 - k.val)) % 8, 0] := by decide +kernel

theorem row_inb (d : Fin 8) : ∀ a, (![d.val, 0] : Fin 2 → ℕ) a + S1x128.size a ≤ S8x128.size a := fun a => by revert d a; decide
theorem off1_inb (d : Dev nD) : ∀ a, k0_off1 d a + S1x128.size a ≤ S8x128.size a := by rw [off1_eq]; exact row_inb d
theorem off2_inb (d : Dev nD) : ∀ a, k0_off2 d a + S1x128.size a ≤ S8x128.size a := by rw [off2_eq]; exact row_inb d
theorem off3_inb (d : Dev nD) (k : Fin 7) : ∀ a, k0_off3 d (BitVec.ofNat 32 (1 + k.val)) a + S1x128.size a ≤ S8x128.size a := by
  rw [off3_eq]; exact row_inb ⟨_, Nat.mod_lt _ (by decide)⟩

end

instance ideal₀ : Cert.CountsIdeal.Facts₀ where
  inb_S1x128_S1x128_0_0 := by decide
  h_S1x128 := by decide
  shapeCasts_S1x128_S1x128 := by decide
  inb_S7_S1_0 := inb7 0
  inb_S7_S1_1 := inb7 1
  inb_S7_S1_2 := inb7 2
  inb_S7_S1_3 := inb7 3
  inb_S7_S1_4 := inb7 4
  inb_S7_S1_5 := inb7 5
  inb_S7_S1_6 := inb7 6
  squeezes_S1_S_ := by decide
  hcc0_scratch0 := by decide
  hcc0_scratch1 := by decide
  k0_dev1_lt := dev1_lt
  k0_dev2_lt := dev2_lt
  k0_dev3_lt := dev3_lt
  k0_dev4_lt := dev4_lt
  k0_dev5_lt := dev5_lt
  k0_dev6_lt := dev6_lt
  k0_dev7_lt := dev7_lt
  k0_dev8_lt := dev1_lt
  k0_dev9_lt := dev2_lt
  k0_dev10_lt := dev3_lt
  k0_dev11_lt := dev4_lt
  k0_dev12_lt := dev5_lt
  k0_dev13_lt := dev6_lt
  k0_dev14_lt := dev7_lt
  k0_off1_inb := off1_inb
  k0_off2_inb := off2_inb
  k0_off3_inb := off3_inb
  hstage0_0 j := match j with | 0 => Memref.isWhole_whole _
  hstage0_1 j := match j with | 0 => Memref.isWhole_whole _

instance ideal : Cert.CountsIdeal.Facts where

/-- The other printing states the same conditions of the same text. -/
instance bits₀ : Cert.Counts.Facts₀ where
  inb_S1x128_S1x128_0_0 := ideal₀.inb_S1x128_S1x128_0_0
  h_S1x128 := ideal₀.h_S1x128
  shapeCasts_S1x128_S1x128 := ideal₀.shapeCasts_S1x128_S1x128
  inb_S7_S1_0 := inb7 0
  inb_S7_S1_1 := inb7 1
  inb_S7_S1_2 := inb7 2
  inb_S7_S1_3 := inb7 3
  inb_S7_S1_4 := inb7 4
  inb_S7_S1_5 := inb7 5
  inb_S7_S1_6 := inb7 6
  squeezes_S1_S_ := ideal₀.squeezes_S1_S_
  hcc0_scratch0 := ideal₀.hcc0_scratch0
  hcc0_scratch1 := ideal₀.hcc0_scratch1
  k0_dev1_lt := dev1_lt
  k0_dev2_lt := dev2_lt
  k0_dev3_lt := dev3_lt
  k0_dev4_lt := dev4_lt
  k0_dev5_lt := dev5_lt
  k0_dev6_lt := dev6_lt
  k0_dev7_lt := dev7_lt
  k0_dev8_lt := dev1_lt
  k0_dev9_lt := dev2_lt
  k0_dev10_lt := dev3_lt
  k0_dev11_lt := dev4_lt
  k0_dev12_lt := dev5_lt
  k0_dev13_lt := dev6_lt
  k0_dev14_lt := dev7_lt
  k0_off1_inb := off1_inb
  k0_off2_inb := off2_inb
  k0_off3_inb := off3_inb
  hstage0_0 j := match j with | 0 => Memref.isWhole_whole _
  hstage0_1 j := match j with | 0 => Memref.isWhole_whole _

instance bits : Cert.Counts.Facts where

instance refIdeal₀ : Cert.CountsReferenceIdeal.Facts₀ where
instance refIdeal : Cert.CountsReferenceIdeal.Facts where

end Cert.Cnt
-- ==== Proof.Cnt.Shape.lean ====
/-
The counts call's body in a structured form.

A device tells the other seven that it is ready, waits for the seven, writes its own row, sends it to the seven, waits
for their rows and then for its own copies to have left. Each of these is written once, for the `k`-th of the seven, and
`body_eq` says that the printed body is this sequence.
-/
module

public import proofs.«01_k».proof.Proof.Cnt.Facts
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.Cnt

open Cert.CountsIdeal
open Idealize.ShloMosaic Idealize.ShloMosaic.TcCoe
open Idealize.SL.Sem

variable {F : FTy → Type} [FloatOps F]

abbrev P (F : FTy → Type) [FloatOps F] : Type → Type 1 := Prog (TpuEff nD τ sig (Elt F) Λ₀ .tc)

/-- The device's own counts, and the eight devices' counts, in vector memory. -/
abbrev inM : Memref sig .tc .vmem S1x128 .f32 := Memref.whole cc0_stg0_0
abbrev outM : Memref sig .tc .vmem S8x128 .f32 := Memref.whole cc0_stg1_0

/-- The rectangle of one row, at offset `o`, and of row `d`. -/
abbrev rectO (o : Fin 2 → ℕ) (h : ∀ a, o a + S1x128.size a ≤ S8x128.size a) : Rect S8x128 := Rect.unit (s := S8x128) o S1x128.size h
abbrev rowR (d : Fin 8) : Rect S8x128 := rectO ![d.val, 0] (row_inb d)
abbrev rowO (o : Fin 2 → ℕ) (h : ∀ a, o a + S1x128.size a ≤ S8x128.size a) : Memref sig .tc .vmem S1x128 .f32 := outM.slice (rectO o h) (fun _ => rfl)
abbrev rowM (d : Fin 8) : Memref sig .tc .vmem S1x128 .f32 := rowO ![d.val, 0] (row_inb d)

/-- Semaphore `k` of an array of seven. -/
def semAt (A : DmaSems sig S7) (k : Fin 7) : DmaSem sig :=
  ((A.slice (Rect.unit (s := S7) ![k.val] S1.size (inb7 k))).squeeze S_ ideal₀.squeezes_S1_S_).sem
/-- The runtime's barrier semaphore. -/
abbrev barS : Sem sig := (SemArray.scalar (sig.barrier 0 rfl) : Sems sig S_).sem

/-- Tell device `d` that this one is ready. -/
def tell (d : Dev nD) : P F PUnit := .op (.semSignal (d, .tc) barS 1) .ret
/-- Wait for all seven. -/
def ready : P F PUnit := .op (.semWait barS 7) .ret
/-- Write the device's own counts to the row at `o`. -/
def keepO (o : Fin 2 → ℕ) (h : ∀ a, o a + S1x128.size a ≤ S8x128.size a) : P F PUnit :=
  .op (.load inM (Rect.unit (s := S1x128) ![0, 0] S1x128.size ideal₀.inb_S1x128_S1x128_0_0).toLoadRect (View.loadsAt_vmem ideal₀.h_S1x128)) fun v =>
    .op (.load outM (rectO o h).toLoadRect (View.loadsAt_vmem ideal₀.h_S1x128)) fun _ =>
      .op (.store outM (rectO o h) (shapeCast S1x128 (s := S1x128) v ideal₀.shapeCasts_S1x128_S1x128) Finset.univ (View.stores_vmem_bits_univ ideal₀.h_S1x128 rfl) (.inl rfl)) .ret
/-- Send the device's own counts to the row at `o` of device `d`. -/
def sendO (k : Fin 7) (d : Dev nD) (o : Fin 2 → ℕ) (h : ∀ a, o a + S1x128.size a ≤ S8x128.size a) : P F PUnit :=
  .op (.enqueueDma inM (.remote (Dev.tc d) (rowO o h) (.dma (semAt cc0_scratch0 k))) (.dma (semAt cc0_scratch1 k))
    (Memref.isWhole_whole cc0_stg0_0).wordExact (View.wordExact_bits rfl) ⟨⟨rfl, Or.inl rfl⟩, trivial⟩) .ret
/-- Wait for the `k`-th arrival, in the row at `o`. -/
def recvdO (k : Fin 7) (o : Fin 2 → ℕ) (h : ∀ a, o a + S1x128.size a ≤ S8x128.size a) : P F PUnit :=
  .op (.waitDma2 (semAt cc0_scratch1 k) inM (rowO o h) (Memref.isWhole_whole cc0_stg0_0).wordExact (View.wordExact_bits rfl)) .ret
/-- Wait for the `k`-th copy to have left. -/
def sentO (k : Fin 7) (o : Fin 2 → ℕ) (h : ∀ a, o a + S1x128.size a ≤ S8x128.size a) : P F PUnit :=
  .op (.waitDma2 (semAt cc0_scratch0 k) (rowO o h) inM (View.wordExact_bits rfl) (Memref.isWhole_whole cc0_stg0_0).wordExact) .ret

/-- One after the other. -/
def each : List (Fin 7) → (Fin 7 → P F PUnit) → P F PUnit
  | [], _ => .ret ⟨⟩
  | k :: l, f => f k >>= fun _ => each l f

def seven : List (Fin 7) := [0, 1, 2, 3, 4, 5, 6]

/-- The device `k + 1` places after `c`, and the one `k + 1` places before. -/
def nb (c : Dev nD) (k : Fin 7) : Dev nD := ⟨(c.val + (k.val + 1)) % 8, Nat.mod_lt _ (by decide)⟩
def bk (c : Dev nD) (k : Fin 7) : Dev nD := ⟨(c.val + (7 - k.val)) % 8, Nat.mod_lt _ (by decide)⟩

/-- The body of device `c`. -/
def prog (c : Dev nD) : P F PUnit :=
  each seven (fun k => tell (nb c k)) >>= fun _ => ready >>= fun _ => keepO ![c.val, 0] (row_inb c) >>= fun _ =>
  each seven (fun k => sendO k (nb c k) ![c.val, 0] (row_inb c)) >>= fun _ =>
  each seven (fun k => recvdO k ![(bk c k).val, 0] (row_inb (bk c k))) >>= fun _ =>
  each seven (fun k => sentO k ![c.val, 0] (row_inb c))

/-! ## The printed body is this sequence -/

/-- The devices as the body computes them. -/
def devs (d : Dev nD) : Fin 7 → Dev nD :=
  ![⟨_, dev1_lt d⟩, ⟨_, dev2_lt d⟩, ⟨_, dev3_lt d⟩, ⟨_, dev4_lt d⟩, ⟨_, dev5_lt d⟩, ⟨_, dev6_lt d⟩, ⟨_, dev7_lt d⟩]
theorem devs_eq : ∀ (d : Dev nD) (k : Fin 7), devs d k = nb d k := by decide +kernel

/-- The body with its own integer chains. -/
def printed (d : Dev nD) : P F PUnit :=
  each seven (fun k => tell (devs d k)) >>= fun _ => ready >>= fun _ => keepO (k0_off1 d) (off1_inb d) >>= fun _ =>
  each seven (fun k => sendO k (devs d k) (k0_off2 d) (off2_inb d)) >>= fun _ =>
  each seven (fun k => recvdO k (k0_off3 d (BitVec.ofNat 32 (1 + k.val))) (off3_inb d k)) >>= fun _ =>
  each seven (fun k => sentO k (k0_off2 d) (off2_inb d))

abbrev bodyAt : P F PUnit := cc0_body (win0_0.stage (cfg0.slots (⟨0, by decide⟩ : Fin cfg0.N) 0)) (ideal₀.hstage0_0 0)
  (win0_1.stage (cfg0.slots (⟨0, by decide⟩ : Fin cfg0.N) 1)) (ideal₀.hstage0_1 0) cc0_scratch0 cc0_scratch1

set_option maxRecDepth 65536 in
theorem printed_eq : bodyAt (F := F) = .op .deviceId (fun d => printed d) := by chain_rfl

/-- Equal rows, equal steps. -/
theorem same {α : Type 1} (f : (o : Fin 2 → ℕ) → (∀ a, o a + S1x128.size a ≤ S8x128.size a) → α) {o o' : Fin 2 → ℕ} (e : o = o') (h) (h') : f o h = f o' h' := by
  subst e; rfl

theorem body_eq : bodyAt (F := F) = .op .deviceId (fun d => prog d) := by
  rw [printed_eq]
  refine congrArg _ (funext fun d => ?_)
  unfold printed prog
  simp only [devs_eq]
  rw [same (fun o h => keepO (F := F) o h) (off1_eq d) (off1_inb d) (row_inb d),
    show (fun k => sendO (F := F) k (nb d k) (k0_off2 d) (off2_inb d)) = _ from funext fun k => same (fun o h => sendO (F := F) k (nb d k) o h) (off2_eq d) _ (row_inb d),
    show (fun k => recvdO (F := F) k (k0_off3 d (BitVec.ofNat 32 (1 + k.val))) (off3_inb d k)) = fun k => recvdO k ![(bk d k).val, 0] (row_inb (bk d k)) from
      funext fun k => same (fun o h => recvdO (F := F) k o h) (off3_eq d k) _ _,
    show (fun k => sentO (F := F) k (k0_off2 d) (off2_inb d)) = _ from funext fun k => same (fun o h => sentO (F := F) k o h) (off2_eq d) _ (row_inb d)]

end Cert.Cnt

end
-- ==== Proof.Cnt.Held.lean ====
/-
What a device holds of the counts, and what passes between devices.

A device has a barrier cell, seven send cells and seven receive cells, each used for one round. Before the handshake a
device's copy of the result is cut into its eight rows; it keeps its own and hands each other row to the device whose
counts belong there. So duty `k` of a barrier, paid by the device `k + 1` places before, hands over the row of the
waiting device at the payer. A receive cell hands its device the row that arrived, a send cell the lent share of the
device's own counts.
-/
module

public import proofs.«01_k».proof.Proof.Cnt.Shape
public import Idealize.ShloMosaic.Lib.Pipeline.Value
public import Idealize.ShloMosaic.Lib.Pointwise

@[expose] public section

noncomputable section

namespace Cert.Cnt

open Cert.CountsIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev 𝒱₀ : Variants := Variants.none
abbrev EP : Emb (UR sig nD τ) (MT nD τ sig Unit (Elt F) ℕ UU ℕ) := embL
abbrev ER : Emb UB (MT nD τ sig Unit (Elt F) ℕ UU ℕ) := embR

abbrev wpb (c : Dev nD) {α : Type} (p : P F α) (Q : α → sProp 𝕄) : sProp 𝕄 := wp frame (wpE (defs₀ (F := F)) 𝒱₀ (c : Thread nD τ) none) Set.univ p Q

/-! ## Places -/

theorem bk_nb : ∀ (c : Dev nD) (k : Fin 7), bk (nb c k) k = c := by decide +kernel
theorem nb_bk : ∀ (c : Dev nD) (k : Fin 7), nb (bk c k) k = c := by decide +kernel
/-- Going on `k + 1` places is going back `7 - k`. -/
theorem bk_rev : ∀ (c : Dev nD) (k : Fin 7), bk c (Fin.revPerm k) = nb c k := by decide +kernel
/-- A device and the seven after it are all eight, and so are a device and the seven before it. -/
theorem all_nb : ∀ c : Dev nD, (Finset.univ : Finset (Dev nD)) = insert c (Finset.univ.image (nb c)) := by decide +kernel
theorem nb_ne : ∀ c : Dev nD, c ∉ Finset.univ.image (nb c) := by decide +kernel
theorem nb_inj : ∀ (c : Dev nD) (k k' : Fin 7), nb c k = nb c k' → k = k' := by decide +kernel

/-- One device and the seven others. -/
theorem bigSep_nb (c : Dev nD) (Φ : Dev nD → sProp 𝕄) : bigSep Finset.univ Φ = iprop(Φ c ∗ bigSep Finset.univ fun k : Fin 7 => Φ (nb c k)) := by
  rw [all_nb c, bigSep_insert (nb_ne c), show Finset.univ.image (nb c) = Finset.univ.map ⟨nb c, fun k k' h => nb_inj c k k' h⟩ from (Finset.map_eq_image ⟨nb c, fun k k' h => nb_inj c k k' h⟩ _).symm, bigSep_map]
  rfl
theorem bigSep_bk (c : Dev nD) (Φ : Dev nD → sProp 𝕄) : (bigSep Finset.univ fun k : Fin 7 => Φ (bk c k)) = bigSep Finset.univ fun k : Fin 7 => Φ (nb c k) := by
  rw [bigSep_univ_equiv Fin.revPerm]
  exact bigSep_congr fun k _ => by rw [bk_rev]

/-! ## Contents -/

/-- Every device's counts, and all of them, row by row. -/
abbrev CV (F : FTy → Type) : Type := Dev nD → Vec F S1x128 .f32
def allc (C : CV F) : Vec F S8x128 .f32 := fun i => C (i 0) (ix2 (n0 := 1) (n1 := 128) 0 (i 1))

theorem read_row (C : CV F) (d : Dev nD) : (rowM d).view.read (Elt F) (allc C) = C d := by
  funext i
  show C (((rowR d).emb i) 0) (ix2 (n0 := 1) (n1 := 128) 0 (((rowR d).emb i) 1)) = C d i
  have h0 : ((rowR d).emb i) 0 = d := Fin.ext (by
    have : (i 0).val < 1 := (i 0).isLt
    show d.val + 1 * (i 0).val = d.val; omega)
  rw [h0]
  refine congrArg (C d) (funext fun a => Fin.ext ?_)
  match a with
  | ⟨0, _⟩ => have : (i 0).val < 1 := (i 0).isLt
              show 0 = (i 0).val; omega
  | ⟨1, _⟩ => show 0 + 1 * (i 1).val = (i 1).val; omega

/-- Row `d` of device `c`'s copy of the result; what a device holds of its own counts. -/
def rowAt (c d : Dev nD) (f : Vec F S8x128 .f32) : sProp 𝕄 := outM.view.loc (c : Thread nD τ) ↦[(rowM d).view.set]{fullShare} f
def own (C : CV F) (c : Dev nD) (q : PosShare TreeShare) : sProp 𝕄 := inM.view.loc (c : Thread nD τ) ↦[inM.view.set]{q} (C c)
/-- Row `d` at device `c` with any contents, and with the counts it is for. -/
def land (c d : Dev nD) : sProp 𝕄 := iprop(∃ f, rowAt (F := F) c d f)
def held (C : CV F) (c d : Dev nD) : sProp 𝕄 := rowAt c d (allc C)

/-- A row that reads as device `d`'s counts holds what it should. -/
theorem rowAt_of_read (C : CV F) (c d : Dev nD) (f : Vec F S8x128 .f32) (h : (rowM d).view.read (Elt F) f = C d) : rowAt (F := F) c d f = held C c d := by
  unfold held rowAt
  refine pointsTo_congr fun i hi => ?_
  obtain ⟨x, -, rfl⟩ := Finset.mem_map.mp hi
  have h1 := congrFun (h.trans (read_row C d).symm) x
  rw [View.read_apply, View.read_apply, cast_inj] at h1
  exact h1

theorem mem_row (d : Dev nD) (i : S8x128.Idx) : i ∈ (rowM d).view.set ↔ (i 0).val = d.val := by
  rw [show (rowM d).view.set = (rowR d).set from View.set_slice_whole _ _, Rect.mem_set_unit]
  refine ⟨fun h => ?_, fun h a => ?_⟩
  · have := h 0
    simp only [Matrix.cons_val_zero] at this
    omega
  · fin_cases a
    · show d.val ≤ (i 0).val ∧ (i 0).val < d.val + 1; omega
    · have : (i 1).val < 128 := (i 1).isLt
      show 0 ≤ (i 1).val ∧ (i 1).val < 0 + 128; omega

/-- A device's copy of the result is its eight rows. -/
theorem rows (c : Dev nD) (f : Vec F S8x128 .f32) :
    (outM.view.loc (c : Thread nD τ) ↦{fullShare} f : sProp 𝕄) = bigSep Finset.univ fun d : Dev nD => rowAt c d f := by
  unfold rowAt
  refine Eq.trans ?_ (pointsTo_biUnion (ℓ := outM.view.loc (c : Thread nD τ)) Finset.univ (fun d : Dev nD => (rowM d).view.set) fun d _ d' _ hd =>
    Finset.disjoint_left.mpr fun i h h' => hd (Fin.ext (((mem_row d i).mp h).symm.trans ((mem_row d' i).mp h'))))
  refine congrArg (fun S => (outM.view.loc (c : Thread nD τ) ↦[S]{fullShare} f : sProp 𝕄)) (Finset.ext fun i => ?_)
  exact ⟨fun _ => Finset.mem_biUnion.mpr ⟨i 0, Finset.mem_univ _, (mem_row (i 0) i).mpr rfl⟩, fun _ => Finset.mem_univ _⟩

/-! ## Shares -/

/-- What is left after lending `n` times, and what is lent then. -/
def rest : ℕ → PosShare TreeShare
  | 0 => fullShare
  | n + 1 => (rest n).right
def lentS (n : ℕ) : PosShare TreeShare := (rest n).left

theorem own_lend (C : CV F) (c : Dev nD) (n : ℕ) : own (F := F) C c (rest n) = iprop(own C c (lentS n) ∗ own C c (rest (n + 1))) :=
  BI.equiv_iff.mp ⟨(pointsTo_share (PosShare.mem_left_op_right (rest n))).1, (pointsTo_share (PosShare.mem_left_op_right (rest n))).2⟩

theorem regroup_seven (A B D E G H I J : sProp 𝕄) : iprop(A ∗ B ∗ D ∗ E ∗ G ∗ H ∗ I ∗ J) = iprop((A ∗ B ∗ D ∗ E ∗ G ∗ H ∗ I) ∗ J) := by
  have h1 : iprop(A ∗ B ∗ D ∗ E ∗ G ∗ H ∗ I ∗ J) ⊢ iprop((A ∗ B ∗ D ∗ E ∗ G ∗ H ∗ I) ∗ J) := by
    iintro ⟨A, B, D, E, G, H, I, J⟩; iframe A B D E G H I J
  have h2 : iprop((A ∗ B ∗ D ∗ E ∗ G ∗ H ∗ I) ∗ J) ⊢ iprop(A ∗ B ∗ D ∗ E ∗ G ∗ H ∗ I ∗ J) := by
    iintro ⟨⟨A, B, D, E, G, H, I⟩, J⟩; iframe A B D E G H I J
  exact BI.equiv_iff.mp ⟨h1, h2⟩

theorem own_shares (C : CV F) (c : Dev nD) :
    own (F := F) C c fullShare = iprop((bigSep Finset.univ fun k : Fin 7 => own C c (lentS k.val)) ∗ own C c (rest 7)) := by
  rw [bigSep_univ_eq_bigSepL [0, 1, 2, 3, 4, 5, 6] (by decide) (by decide), show fullShare = rest 0 from rfl]
  rw [own_lend C c 0, own_lend C c 1, own_lend C c 2, own_lend C c 3, own_lend C c 4, own_lend C c 5, own_lend C c 6]
  show _ = iprop((own C c (lentS 0) ∗ own C c (lentS 1) ∗ own C c (lentS 2) ∗ own C c (lentS 3) ∗ own C c (lentS 4) ∗ own C c (lentS 5) ∗ own C c (lentS 6))
    ∗ own C c (rest 7))
  exact regroup_seven _ _ _ _ _ _ _ _

end Cert.Cnt

end
-- ==== Proof.Cnt.Sched.lean ====
/-
The counts call's semaphores, as a schedule of one round: duties, amounts and payloads, and what a device owes.
-/
module

public import proofs.«01_k».proof.Proof.Cnt.Held

@[expose] public section

noncomputable section

namespace Cert.Cnt

open Cert.CountsIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells -/

/-- A device's cells: `none` the barrier, `(true, k)` the `k`-th send's, `(false, k)` the `k`-th arrival's. -/
abbrev Cid : Type := Option (Bool × Fin 7)

def semOf : Cid → SemLoc sig
  | none => .reg barS
  | some (true, k) => .dma (semAt cc0_scratch0 k)
  | some (false, k) => .dma (semAt cc0_scratch1 k)

set_option maxRecDepth 8000 in
theorem semOf_injective : Function.Injective semOf := by decide

/-- The cell a semaphore is, if it is one. -/
def code : SemLoc sig → Option Cid := Function.partialInv semOf
theorem code_semOf (k : Cid) : code (semOf k) = some k := Function.partialInv_left semOf_injective k
theorem code_none {s : SemLoc sig} (h : ∀ k, semOf k ≠ s) : code s = none := by
  unfold code Function.partialInv; rw [dif_neg]; rintro ⟨k, hk⟩; exact h k hk

abbrev cell (c : Dev nD) (k : Cid) : GSem nD τ sig := ((c : Thread nD τ), semOf k)
theorem cell_injective : Function.Injective fun ck : Dev nD × Cid => cell ck.1 ck.2 := by
  rintro ⟨c, k⟩ ⟨c', k'⟩ h
  exact Prod.ext (congrArg (fun g : GSem nD τ sig => g.1.1) h) (semOf_injective (congrArg Prod.snd h))
theorem cell_eq_iff {c c' : Dev nD} {k k' : Cid} : Iff (cell c k = cell c' k') (c = c' ∧ k = k') :=
  ⟨fun h => Prod.ext_iff.mp (cell_injective (a₁ := (c, k)) (a₂ := (c', k')) h), fun h => by rw [h.1, h.2]⟩

abbrev bar (c : Dev nD) : GSem nD τ sig := cell c none
abbrev snd (c : Dev nD) (k : Fin 7) : GSem nD τ sig := cell c (some (true, k))
abbrev rcv (c : Dev nD) (k : Fin 7) : GSem nD τ sig := cell c (some (false, k))

/-! ## Amounts -/

/-- What a row's copy credits its semaphores with. -/
def NN : ℕ := cc0_stg1_0.dmaCredit S1x128 .f32
theorem NN_row (o h) : (rowO o h).view.dmaCredit = NN := rfl
theorem NN_in : (inM : Memref sig .tc .vmem S1x128 .f32).view.dmaCredit = NN := rfl
theorem NN_pos : 0 < NN := sig.dmaCredit_pos _ _ _ _ _ ideal₀.h_S1x128

/-! ## The schedule -/

variable (C : CV F)

def dutiesK : Cid → Finset (Fin 7) | none => Finset.univ | some _ => {0}
def amountK : Cid → ℕ | none => 1 | some _ => NN
def payK (c : Dev nD) : Cid → Fin 7 → sProp 𝕄
  | none, k => land (bk c k) c
  | some (true, k), _ => own C c (lentS k.val)
  | some (false, k), _ => held C c (bk c k)

instance rowAt_storable (c d f) : BI.Storable (upEmb : UEmb _ 𝕄) (rowAt (F := F) c d f) := by unfold rowAt; infer_instance
instance payK_storable (c : Dev nD) (k : Cid) (i : Fin 7) : BI.Storable (upEmb : UEmb _ 𝕄) (payK C c k i) := by
  rcases k with _ | ⟨_ | _, x⟩
  · show BI.Storable _ (land (F := F) (bk c i) c); unfold land; infer_instance
  · show BI.Storable _ (held C c (bk c x)); unfold held; infer_instance
  · show BI.Storable _ (own C c (lentS x.val)); unfold own; infer_instance

/-- One round; what a cell has by which cell it is. -/
def rd : Rounds.Schedule (GSem nD τ sig) (Fin 7) 𝕄 where
  duties g r := if r = 0 ∧ g.1.2 = .tc then (code g.2).elim ∅ dutiesK else ∅
  unitless _ := False
  amount g _ _ := (code g.2).elim 1 amountK
  payload g _ d := (code g.2).elim iprop(emp) (fun k => payK C g.1.1 k d)
  amount_pos g _ _ _ := by
    rcases code g.2 with _ | _ | _
    · exact Nat.one_pos
    · exact Nat.one_pos
    · exact NN_pos

instance rd_storable (g : GSem nD τ sig) (r : ℕ) (d : Fin 7) : BI.Storable (upEmb : UEmb _ 𝕄) ((rd (F := F) C).payload g r d) := by
  show BI.Storable upEmb ((code g.2).elim iprop(emp) (fun k => payK C g.1.1 k d))
  rcases code g.2 with _ | k
  · show BI.Storable _ iprop(emp); infer_instance
  · exact payK_storable C _ _ _

theorem rd_duties (c : Dev nD) (k : Cid) : (rd (F := F) C).duties (cell c k) 0 = dutiesK k := by
  dsimp only [rd]; rw [if_pos ⟨rfl, rfl⟩, code_semOf]; rfl
theorem rd_later (g : GSem nD τ sig) : ∀ r, 1 ≤ r → (rd (F := F) C).duties g r = ∅ :=
  fun r hr => by dsimp only [rd]; rw [if_neg fun h => by omega]
theorem rd_amount (c : Dev nD) (k : Cid) (d : Fin 7) : (rd (F := F) C).amount (cell c k) 0 d = amountK k := by
  dsimp only [rd]; rw [code_semOf]; rfl
theorem rd_payload (c : Dev nD) (k : Cid) (d : Fin 7) : (rd (F := F) C).payload (cell c k) 0 d = payK C c k d := by
  dsimp only [rd]; rw [code_semOf]; rfl

/-- What a cell's round is worth in all, and what it hands over. -/
def totalK : Cid → ℕ | none => 7 | some _ => NN
def allK (c : Dev nD) (k : Cid) : sProp 𝕄 := bigSep (dutiesK k) (payK C c k)
theorem rd_expect (c : Dev nD) (k : Cid) : (rd (F := F) C).expect (cell c k) 0 = totalK k := by
  unfold Schedule.expect Schedule.amountOf
  rw [rd_duties, Finset.sum_congr rfl fun d _ => rd_amount C c k d]
  rcases k with _ | ⟨b, x⟩
  · rfl
  · exact Finset.sum_singleton _ _
theorem rd_rest (c : Dev nD) (k : Cid) :
    bigSep ((rd (F := F) C).duties (cell c k) 0 \ ∅) (fun d => (rd (F := F) C).payload (cell c k) 0 d) = allK C c k := by
  rw [Finset.sdiff_empty, rd_duties]
  exact bigSep_congr fun d _ => rd_payload C c k d
theorem duty_mem (c : Dev nD) (k : Cid) (d : Fin 7) (h : d ∈ dutiesK k) : d ∈ (rd C).duties (cell c k) 0 := by rw [rd_duties]; exact h

/-! ## Debts and levels -/

/-- What a device owes, the next payment first. -/
def owe : List (GSem nD τ sig × ℕ) → CellTallies nD τ sig Unit
  | [] => 0
  | p :: l => owe l + tallyAt p.1 () p.2

theorem owe_apply (l : List (GSem nD τ sig × ℕ)) (g : GSem nD τ sig) : owe l g () = (l.map fun p => if g = p.1 then p.2 else 0).sum := by
  induction l with
  | nil => rfl
  | cons p l ih =>
    unfold owe
    rw [Pi.add_apply, Finsupp.add_apply, tallyAt_apply, ih, List.map_cons, List.sum_cons, Nat.add_comm]
    exact congrArg (· + _) (if_congr (and_iff_left rfl) rfl rfl)

theorem owe_pos {l : List (GSem nD τ sig × ℕ)} {g : GSem nD τ sig} {u : Unit} (h : 0 < owe l g u) : ∃ p ∈ l, p.1 = g := by
  by_contra hn
  rw [owe_apply] at h
  refine absurd (List.sum_eq_zero fun n hm => ?_) (Nat.ne_of_gt h)
  obtain ⟨p, hp, rfl⟩ := List.mem_map.mp hm
  exact if_neg fun e => hn ⟨p, hp, e.symm⟩

/-- The signals still to be given, the arrivals still to be caused, and all of both. -/
def sigs (c : Dev nD) (l : List (Fin 7)) : List (GSem nD τ sig × ℕ) := l.map fun k => (bar (nb c k), 1)
def puts (c : Dev nD) (l : List (Fin 7)) : List (GSem nD τ sig × ℕ) := l.map fun k => (rcv (nb c k) k, NN)
def debts (c : Dev nD) : List (GSem nD τ sig × ℕ) := sigs c seven ++ puts c seven
def O₀ (c : Dev nD) : CellTallies nD τ sig Unit := owe (debts c)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
def lvK : Cid → ℕ | none => 1 | some (true, _) => 0 | some (false, _) => 2
/-- Barriers at 1, arrivals at 2, everything else at 0. -/
def lv (g : GSem nD τ sig) (_ : Unit) : ℕ := (code g.2).elim 0 lvK
theorem lv_cell (c : Dev nD) (k : Cid) (u : Unit) : lv (cell c k) u = lvK k := by unfold lv; rw [code_semOf]; rfl

/-- Everything in a list of debts is above `n`. -/
def Above (n : ℕ) (l : List (GSem nD τ sig × ℕ)) : Prop := ∀ p ∈ l, p.1.1.2 = .tc ∧ n < lv p.1 ()
theorem above_nil (n : ℕ) : Above n [] := fun _ hp => absurd hp List.not_mem_nil
theorem above_puts (c : Dev nD) (n : ℕ) (hn : n < 2) (l : List (Fin 7)) : Above n (puts c l) := fun p hp => by
  obtain ⟨k, _, rfl⟩ := List.mem_map.mp hp
  exact ⟨rfl, by rw [lv_cell]; exact hn⟩
theorem above_debts (c : Dev nD) : Above 0 (debts c) := fun p hp => by
  rcases List.mem_append.mp hp with hp | hp
  · obtain ⟨k, _, rfl⟩ := List.mem_map.mp hp
    exact ⟨rfl, by rw [lv_cell]; exact Nat.one_pos⟩
  · exact above_puts c 0 (by decide) seven p hp

theorem mayWait (c : Dev nD) (sm : SemLoc sig) (l : List (GSem nD τ sig × ℕ)) (n : ℕ) (hsm : lv ((c : Thread nD τ), sm) () ≤ n)
    (hl : Above n l) : (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact hsm)
    (fun g u hg => by
      obtain ⟨p, hp, rfl⟩ := owe_pos hg
      exact (hl p hp).2)

/-! ## Invariants and marks -/

def records (K : Dev nD × Cid → ℕ) : sProp 𝕄 :=
  iprop((bigSep Finset.univ fun ck : Dev nD × Cid => cellInv ER (rd C) (K ck) (cell ck.1 ck.2))
    ∗ bigSep Finset.univ fun ck : Dev nD × Cid => reached ER (cell ck.1 ck.2) 0)

instance records_persistent (K : Dev nD × Cid → ℕ) : BI.Persistent (records C K) := by unfold records; infer_instance

theorem rec_inv (K : Dev nD × Cid → ℕ) (c : Dev nD) (k : Cid) : records C K ⊢ cellInv ER (rd C) (K (c, k)) (cell c k) := by
  unfold records
  exact sep_elim_left.trans (bigSep_elim (Finset.mem_univ (c, k)))
theorem rec_reached (K : Dev nD × Cid → ℕ) (c : Dev nD) (k : Cid) : records C K ⊢ reached ER (cell c k) 0 := by
  unfold records
  exact sep_elim_right.trans (bigSep_elim (Φ := fun ck : Dev nD × Cid => reached ER (cell ck.1 ck.2) 0) (Finset.mem_univ (c, k)))

/-- What device `c` still owes, whatever it has waited for. -/
def ow (c : Dev nD) (l : List (GSem nD τ sig × ℕ)) : sProp 𝕄 := iprop(∃ V, owes (c : Thread nD τ) (owe l) V)

end Cert.Cnt

end
-- ==== Proof.Cnt.Body.lean ====
/-
The counts call's body: one rule for each step, one rule for seven steps alike, and the whole body.
-/
module

public import proofs.«01_k».proof.Proof.Cnt.Sched

@[expose] public section

noncomputable section

namespace Cert.Cnt

open Cert.CountsIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (C : CV F) (K : Dev nD × Cid → ℕ)

/-! ## Steps alike -/

/-- A step's rule for every `k` gives the rule for the steps of a list, `I` running down the list. -/
theorem wp_each (c : Dev nD) {R : sProp 𝕄} [BI.Persistent R] {f : Fin 7 → P F PUnit} {A B : Fin 7 → sProp 𝕄} {I : List (Fin 7) → sProp 𝕄} {α : Type} {Q : α → sProp 𝕄}
    (step : ∀ (k : Fin 7) (l : List (Fin 7)) (kk : PUnit → P F α),
      iprop(R ∗ A k ∗ I (k :: l)) ⊢ iprop(((B k ∗ I l) -∗ wpb c (kk ⟨⟩) Q) -∗ wpb c (f k >>= kk) Q))
    (l : List (Fin 7)) (kk : PUnit → P F α) :
    iprop(R ∗ bigSepL l A ∗ I l) ⊢ iprop(((bigSepL l B ∗ I []) -∗ wpb c (kk ⟨⟩) Q) -∗ wpb c (each l f >>= kk) Q) := by
  induction l with
  | nil =>
    unfold each
    simp only [Prog.bind_ret]
    iintro ⟨-, HA, HI⟩ Hk
    iapply Hk
    iframe HA HI
  | cons k l ih =>
    unfold each
    have h (Φ : Fin 7 → sProp 𝕄) : bigSepL (k :: l) Φ = iprop(Φ k ∗ bigSepL l Φ) := bigSepL_cons k l Φ
    rw [h, h, bind_assoc]
    iintro ⟨#HR, ⟨HA, HAs⟩, HI⟩ Hk
    iapply (step k l _) $$ [HA HI]
    · iframe HR HA HI
    iintro ⟨HB, HI⟩
    iapply ih $$ [HAs HI]
    · iframe HR HAs HI
    iintro ⟨HBs, HI⟩
    iapply Hk
    iframe HB HBs HI

/-- The same with every one of the seven. -/
theorem wp_seven (c : Dev nD) {R : sProp 𝕄} [BI.Persistent R] {f : Fin 7 → P F PUnit} {A B : Fin 7 → sProp 𝕄} {I : List (Fin 7) → sProp 𝕄} {α : Type} {Q : α → sProp 𝕄}
    (step : ∀ (k : Fin 7) (l : List (Fin 7)) (kk : PUnit → P F α),
      iprop(R ∗ A k ∗ I (k :: l)) ⊢ iprop(((B k ∗ I l) -∗ wpb c (kk ⟨⟩) Q) -∗ wpb c (f k >>= kk) Q)) (kk : PUnit → P F α) :
    iprop(R ∗ bigSep Finset.univ A ∗ I seven) ⊢ iprop(((bigSep Finset.univ B ∗ I []) -∗ wpb c (kk ⟨⟩) Q) -∗ wpb c (each seven f >>= kk) Q) := by
  rw [bigSep_univ_eq_bigSepL seven (by decide) (by decide) A, bigSep_univ_eq_bigSepL seven (by decide) (by decide) B]
  exact wp_each c step seven kk

/-! ## The steps -/

theorem wp_tell (c : Dev nD) (r : List (GSem nD τ sig × ℕ)) {α : Type} {Q : α → sProp 𝕄} (k : Fin 7) (l : List (Fin 7)) (kk : PUnit → P F α) :
    iprop(records C K ∗ (land c (nb c k) ∗ dutyTok ER (bar (nb c k)) 0 k) ∗ ow c (sigs c (k :: l) ++ r))
      ⊢ iprop(((emp ∗ ow c (sigs c l ++ r)) -∗ wpb c (kk ⟨⟩) Q) -∗ wpb c (tell (nb c k) >>= kk) Q) := by
  unfold tell ow
  simp only [Prog.bind_op, Prog.bind_ret]
  iintro ⟨#HR, ⟨HP, Ht⟩, ⟨%V, HO⟩⟩ Hk
  iapply (Rounds.wp_signal 𝒱₀ ER (rd C) (c : Thread nD τ) none (dst := (nb c k : Thread nD τ)) (κ := K (nb c k, none))
      (d := k) (duty_mem C (nb c k) none k (Finset.mem_univ k)) (rd_amount C (nb c k) none k) () (owe (sigs c l ++ r)) rfl) $$ [HO Ht HP]
  · isplitr; · iapply (rec_inv C K (nb c k) none); iexact HR
    isplitl [HO]; · iexact HO
    isplitl [Ht]; · iexact Ht
    isplitl [HP]
    · rw [show (rd C).payload ((nb c k : Thread nD τ), .reg barS) 0 k = land (bk (nb c k) k) (nb c k) from rd_payload C (nb c k) none k, bk_nb]
      iexact HP
    iapply (rec_reached C K (nb c k) none); iexact HR
  iintro HO
  iapply Hk
  isplitr; · iempintro
  iexists _; iexact HO

/-- A wait for a cell's whole round: the cell is closed and what it handed over is the device's. -/
theorem wp_round (c : Dev nD) (x : Cid) (l : List (GSem nD τ sig × ℕ)) (hl : Above (lvK x) l)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (semOf x) (totalK x) K')
    {α : Type} {kk : PUnit → P F α} {Q : α → sProp 𝕄} :
    iprop((records C K ∗ levAts L lv) ∗ (cred (tallyAt (cell c x) () (totalK x)) ∗ atPos ER (cell c x) 0 ∅ 0) ∗ ow c l)
      ⊢ iprop((((semVal (cell c x) 0 ∗ allK C c x) ∗ ow c l) -∗ wpb c (kk ⟨⟩) Q) -∗ wpb c (.op w kk) Q) := by
  unfold ow
  iintro ⟨⟨#HR, #Hlev⟩, ⟨Hc, Hat⟩, ⟨%V, HO⟩⟩ Hk
  iapply (Rounds.wp_wait_rest_token 𝒱₀ ER (rd C) (c : Thread nD τ) none (κ := K (c, x))
      hw (Set.mem_univ _) () (O := owe l) (W := V) (R := 0) (m := 0) (T := ∅)
      ((Nat.zero_add _).trans (rd_expect C c x).symm)) $$ [Hc HO Hat]
  · isplitr; · iapply (rec_inv C K c x); iexact HR
    isplitl [Hc]; · iexact Hc
    isplitl [HO]; · iexact HO
    isplitr
    · iapply (mayWait c (semOf x) l _ (le_of_eq (lv_cell c x ())) hl); iexact Hlev
    iexact Hat
  iintro ⟨HO, Hat, -, Hpay⟩
  ihave Hp := (Entails.of_eq (rd_rest C c x)) $$ Hpay
  imod (Rounds.cell_close ER (rd C) (Set.mem_univ (K (c, x))) (fun h => h) (R := 0 + 1) (rd_later C _)) $$ [Hat] with Hz
  · isplitr; · iapply (rec_inv C K c x); iexact HR
    iexact Hat
  iapply Hk
  isplitl [Hz Hp]
  · isplitl [Hz] <;> iassumption
  iexists _; iexact HO

theorem wp_ready (c : Dev nD) (l : List (GSem nD τ sig × ℕ)) (hl : Above 1 l) {α : Type} {kk : PUnit → P F α} {Q : α → sProp 𝕄} :
    iprop((records C K ∗ levAts L lv) ∗ (cred (tallyAt (bar c) () 7) ∗ atPos ER (bar c) 0 ∅ 0) ∗ ow c l)
      ⊢ iprop((((semVal (bar c) 0 ∗ bigSep Finset.univ fun k : Fin 7 => land (bk c k) c) ∗ ow c l) -∗ wpb c (kk ⟨⟩) Q) -∗ wpb c (ready >>= kk) Q) := by
  unfold ready
  simp only [Prog.bind_op, Prog.bind_ret]
  exact wp_round C K c none l hl (wpE_semWait_eq 𝒱₀ (c : Thread nD τ) none Set.univ)

theorem all_one (c : Dev nD) (b : Bool) (k : Fin 7) : allK C c (some (b, k)) = payK C c (some (b, k)) 0 := by
  unfold allK dutiesK; rw [bigSep_singleton]

theorem wp_recvd (c : Dev nD) {α : Type} {Q : α → sProp 𝕄} (k : Fin 7) (l : List (Fin 7)) (kk : PUnit → P F α) :
    iprop((records C K ∗ levAts L lv) ∗ (cred (tallyAt (rcv c k) () NN) ∗ atPos ER (rcv c k) 0 ∅ 0) ∗ ow c [])
      ⊢ iprop((((semVal (rcv c k) 0 ∗ held C c (bk c k)) ∗ ow c []) -∗ wpb c (kk ⟨⟩) Q)
        -∗ wpb c (recvdO k ![(bk c k).val, 0] (row_inb (bk c k)) >>= kk) Q) := by
  unfold recvdO
  simp only [Prog.bind_op, Prog.bind_ret]
  rw [show held C c (bk c k) = allK C c (some (false, k)) from (all_one C c false k).symm]
  refine wp_round C K c (some (false, k)) [] (above_nil _) fun K' => ?_
  rw [wpE_waitDma2_eq 𝒱₀ (c : Thread nD τ) none Set.univ]
  exact congrArg (fun n => waitSpec (c : Thread nD τ) Set.univ (semOf (some (false, k))) n K') (NN_row _ _)

theorem wp_sent (c : Dev nD) {α : Type} {Q : α → sProp 𝕄} (k : Fin 7) (l : List (Fin 7)) (kk : PUnit → P F α) :
    iprop((records C K ∗ levAts L lv) ∗ (cred (tallyAt (snd c k) () NN) ∗ atPos ER (snd c k) 0 ∅ 0) ∗ ow c [])
      ⊢ iprop((((semVal (snd c k) 0 ∗ own C c (lentS k.val)) ∗ ow c []) -∗ wpb c (kk ⟨⟩) Q)
        -∗ wpb c (sentO k ![c.val, 0] (row_inb c) >>= kk) Q) := by
  unfold sentO
  simp only [Prog.bind_op, Prog.bind_ret]
  rw [show own C c (lentS k.val) = allK C c (some (true, k)) from (all_one C c true k).symm]
  refine wp_round C K c (some (true, k)) [] (above_nil _) fun K' => ?_
  rw [wpE_waitDma2_eq 𝒱₀ (c : Thread nD τ) none Set.univ]
  exact congrArg (fun n => waitSpec (c : Thread nD τ) Set.univ (semOf (some (true, k))) n K') NN_in

/-- Row `c` overwritten by device `c`'s counts is what the row should be. -/
theorem written (c d : Dev nD) (f : Vec F S8x128 .f32) (w : Vec F S1x128 .f32) (hw : w = C d) :
    rowAt (F := F) c d ((rowM d).view.write (Elt F) f w Finset.univ) = held C c d :=
  rowAt_of_read C c d _ ((View.read_write_univ _ _).trans hw)

theorem wp_send (c : Dev nD) {α : Type} {Q : α → sProp 𝕄} (k : Fin 7) (l : List (Fin 7)) (kk : PUnit → P F α) :
    iprop(records C K ∗ (own C c (lentS k.val) ∗ land (nb c k) c ∗ dutyTok ER (snd c k) 0 0 ∗ dutyTok ER (rcv (nb c k) k) 0 0) ∗ ow c (puts c (k :: l)))
      ⊢ iprop(((cred (tallyAt (snd c k) () NN) ∗ ow c (puts c l)) -∗ wpb c (kk ⟨⟩) Q)
        -∗ wpb c (sendO k (nb c k) ![c.val, 0] (row_inb c) >>= kk) Q) := by
  unfold sendO
  simp only [Prog.bind_op, Prog.bind_ret]
  unfold ow land
  iintro ⟨#HR, ⟨Hs, ⟨%f, Hd⟩, Ht, Ht'⟩, ⟨%V, HO⟩⟩ Hk
  iapply (Rounds.wp_send_pointsTo 𝒱₀ ER (rd C) (c : Thread nD τ) none (c' := (nb c k : Thread nD τ))
      (src := inM) (dst := rowM c) (κ₁ := K (c, some (true, k))) (κ₂ := K (nb c k, some (false, k)))
      (q := lentS k.val) (fs := C c) (fd := f) (r₁ := 0) (r₂ := 0) (d₁ := 0) (d₂ := 0)
      (duty_mem C c (some (true, k)) 0 (Finset.mem_singleton_self 0)) (duty_mem C (nb c k) (some (false, k)) 0 (Finset.mem_singleton_self 0))
      () () NN (NN_row _ _) (rd_amount C c (some (true, k)) 0) (rd_amount C (nb c k) (some (false, k)) 0) (owe (puts c l)) rfl (W := V)
      (by
        refine BI.Entails.trans ?_ (Entails.of_eq (rd_payload C c (some (true, k)) 0).symm)
        show _ ⊢ own C c (lentS k.val)
        exact BI.Entails.refl _)
      (by
        refine BI.Entails.trans ?_ (Entails.of_eq (rd_payload C (nb c k) (some (false, k)) 0).symm)
        show _ ⊢ held C (nb c k) (bk (nb c k) k)
        rw [bk_nb, ← written C (nb c k) c f (C c) rfl]
        exact BI.Entails.refl _)) $$ [Hs Hd HO Ht Ht']
  · isplitr; · iapply (rec_inv C K c (some (true, k))); iexact HR
    isplitr; · iapply (rec_inv C K (nb c k) (some (false, k))); iexact HR
    isplitl [Hs]; · unfold own; iexact Hs
    isplitl [Hd]; · unfold rowAt; iexact Hd
    isplitl [HO]; · iexact HO
    isplitl [Ht]; · iexact Ht
    isplitr; · iapply (rec_reached C K c (some (true, k))); iexact HR
    isplitl [Ht']; · iexact Ht'
    iapply (rec_reached C K (nb c k) (some (false, k))); iexact HR
  iintro ⟨Hc, HO⟩
  iapply Hk
  isplitl [Hc]; · iexact Hc
  iexists _; iexact HO

theorem read_own (f : Vec F S1x128 .f32) :
    (inM : Memref sig .tc .vmem S1x128 .f32).view.readAt (Elt F) (Rect.unit (s := S1x128) ![0, 0] S1x128.size ideal₀.inb_S1x128_S1x128_0_0).toLoadRect f = f :=
  Memref.readAt_unit_zero (Elt F) cc0_stg0_0 (funext fun a => by fin_cases a <;> rfl) _ f

theorem wp_keep (c : Dev nD) {α : Type} {kk : PUnit → P F α} {Q : α → sProp 𝕄} :
    iprop(own C c fullShare ∗ land c c) ⊢ iprop(((own C c fullShare ∗ held C c c) -∗ wpb c (kk ⟨⟩) Q) -∗ wpb c (keepO ![c.val, 0] (row_inb c) >>= kk) Q) := by
  have hS : (outM : Memref sig .tc .vmem S8x128 .f32).view.setOn (rowR c).toLoadRect.set ⊆ (rowM c).view.set := (View.set_slice _ _).symm.subset
  have hS' : ((outM : Memref sig .tc .vmem S8x128 .f32).access (rowR c)).setOn Finset.univ ⊆ (rowM c).view.set := by rw [View.setOn_univ]
  unfold keepO own land
  simp only [Prog.bind_op, Prog.bind_ret]
  iintro ⟨Hi, ⟨%f, Ho⟩⟩ Hk
  rw [← written C c c f _ (shapeCast_self _ _)]
  unfold rowAt
  iapply (wp_load 𝒱₀ (c : Thread nD τ) none Set.univ (m := inM) (by rw [View.set_whole]; exact Finset.subset_univ _)) $$ Hi; iintro Hi
  rw [read_own]
  iapply (wp_load 𝒱₀ (c : Thread nD τ) none Set.univ (m := outM) hS) $$ Ho; iintro Ho
  iapply (wp_store 𝒱₀ (c : Thread nD τ) none Set.univ (m := outM) (r := rowR c) (Mk := Finset.univ) hS') $$ Ho; iintro Ho
  iapply Hk
  isplitl [Hi] <;> iassumption

/-! ## The body -/

/-- What the launch gives a device: the tokens of what it pays, its cells' positions, and the credit of what it is owed. -/
def kit (c : Dev nD) : sProp 𝕄 :=
  iprop(((bigSep Finset.univ fun k : Fin 7 => dutyTok ER (bar (nb c k)) 0 k) ∗ (bigSep Finset.univ fun k : Fin 7 => dutyTok ER (snd c k) 0 0)
      ∗ bigSep Finset.univ fun k : Fin 7 => dutyTok ER (rcv (nb c k) k) 0 0)
    ∗ (atPos ER (bar c) 0 ∅ 0 ∗ (bigSep Finset.univ fun k : Fin 7 => atPos ER (snd c k) 0 ∅ 0) ∗ bigSep Finset.univ fun k : Fin 7 => atPos ER (rcv c k) 0 ∅ 0)
    ∗ cred (tallyAt (bar c) () 7) ∗ bigSep Finset.univ fun k : Fin 7 => cred (tallyAt (rcv c k) () NN))
/-- Its cells at zero. -/
def zeros (c : Dev nD) : sProp 𝕄 :=
  iprop((bigSep Finset.univ fun k : Fin 7 => semVal (snd c k) 0) ∗ bigSep Finset.univ fun k : Fin 7 => semVal (rcv c k) 0)

/-- The result's buffer at the start: the device's own row, and one for each of the others. -/
theorem rows_open (c : Dev nD) (f : Vec F S8x128 .f32) :
    (outM.view.loc (c : Thread nD τ) ↦{fullShare} f : sProp 𝕄) ⊢ iprop(land c c ∗ bigSep Finset.univ fun k : Fin 7 => land c (nb c k)) := by
  have h (d : Dev nD) : rowAt c d f ⊢ (land (F := F) c d : sProp 𝕄) := by
    unfold land
    iintro H
    iexists f; iexact H
  rw [rows, bigSep_nb c]
  exact BI.sep_mono (h c) (bigSep_mono fun k _ => h (nb c k))

/-- And at the end. -/
theorem rows_close (c : Dev nD) :
    iprop(held C c c ∗ bigSep Finset.univ fun k : Fin 7 => held C c (bk c k)) ⊢ (outM.view.loc (c : Thread nD τ) ↦{fullShare} allc C : sProp 𝕄) := by
  rw [rows, bigSep_nb c, bigSep_bk c (fun d => held C c d)]
  exact BI.Entails.refl _

/-- The body, step by step. -/
theorem wp_body (c : Dev nD) {Q : PUnit → sProp 𝕄} :
    iprop(records C K ∗ levAts L lv ∗ ow c (debts c) ∗ kit c ∗ own C c fullShare ∗ ∃ f : Vec F S8x128 .f32, outM.view.loc (c : Thread nD τ) ↦{fullShare} f)
      ⊢ iprop(((ow c [] ∗ semVal (bar c) 0 ∗ zeros c ∗ own C c fullShare ∗ (outM.view.loc (c : Thread nD τ) ↦{fullShare} allc C)) -∗ wpb c (.ret ⟨⟩) Q)
        -∗ wpb c (prog c) Q) := by
  rw [show prog (F := F) c = prog c >>= fun _ => .ret ⟨⟩ from (Prog.bind_pure _).symm]
  unfold prog kit zeros
  simp only [bind_assoc]
  iintro ⟨#HR, #Hlev, HO, ⟨⟨Tb, Ts, Tr⟩, ⟨Ab, As, Ar⟩, Cb, Cr⟩, Hi, ⟨%f, Ho⟩⟩ Hk
  ihave Ho := (rows_open c f) $$ Ho
  icases Ho with ⟨Ho, Hl⟩
  iapply (wp_seven c (A := fun k => iprop(land c (nb c k) ∗ dutyTok ER (bar (nb c k)) 0 k)) (B := fun _ => iprop(emp)) (I := fun l => ow c (sigs c l ++ puts c seven)) (wp_tell C K c (puts c seven))) $$ [HO Hl Tb]
  · rw [bigSep_sep']
    isplitr; · iexact HR
    isplitl [Hl Tb]
    · isplitl [Hl] <;> iassumption
    iexact HO
  iintro ⟨-, HO⟩
  iapply (wp_ready C K c (puts c seven) (above_puts c 1 (by decide) seven)) $$ [Cb Ab HO]
  · isplitr; · isplitr <;> iassumption
    isplitl [Cb Ab]
    · isplitl [Cb] <;> iassumption
    iexact HO
  iintro ⟨⟨Zb, Hl⟩, HO⟩
  ihave Hl := (Entails.of_eq (bigSep_bk c fun d => land (F := F) d c)) $$ Hl
  iapply (wp_keep C c) $$ [Hi Ho]
  · isplitl [Hi] <;> iassumption
  iintro ⟨Hi, Ho⟩
  ihave Hi := (Entails.of_eq (own_shares C c)) $$ Hi
  icases Hi with ⟨Hs, Hi⟩
  iapply (wp_seven c (A := fun k => iprop(own C c (lentS k.val) ∗ land (nb c k) c ∗ dutyTok ER (snd c k) 0 0 ∗ dutyTok ER (rcv (nb c k) k) 0 0))
    (B := fun k => cred (tallyAt (snd c k) () NN)) (I := fun l => ow c (puts c l)) (wp_send C K c)) $$ [Hs Hl Ts Tr HO]
  · simp only [bigSep_sep']
    isplitr; · iexact HR
    isplitl [Hs Hl Ts Tr]
    · iframe Hs Hl Ts Tr
    iexact HO
  iintro ⟨Cs, HO⟩
  iapply (wp_seven c (A := fun k => iprop(cred (tallyAt (rcv c k) () NN) ∗ atPos ER (rcv c k) 0 ∅ 0))
    (B := fun k => iprop(semVal (rcv c k) 0 ∗ held C c (bk c k))) (I := fun _ => ow c []) (wp_recvd C K c)) $$ [Cr Ar HO]
  · rw [bigSep_sep']
    isplitr; · isplitr <;> iassumption
    isplitl [Cr Ar]
    · isplitl [Cr] <;> iassumption
    iexact HO
  iintro ⟨Hr, HO⟩
  ihave Hr := (Entails.of_eq (bigSep_sep' Finset.univ (fun k : Fin 7 => semVal (rcv c k) 0) (fun k : Fin 7 => held C c (bk c k)))) $$ Hr
  icases Hr with ⟨Zr, Hr⟩
  iapply (wp_seven c (A := fun k => iprop(cred (tallyAt (snd c k) () NN) ∗ atPos ER (snd c k) 0 ∅ 0))
    (B := fun k => iprop(semVal (snd c k) 0 ∗ own C c (lentS k.val))) (I := fun _ => ow c []) (wp_sent C K c)) $$ [Cs As HO]
  · rw [bigSep_sep']
    isplitr; · isplitr <;> iassumption
    isplitl [Cs As]
    · isplitl [Cs] <;> iassumption
    iexact HO
  iintro ⟨Hs, HO⟩
  ihave Hs := (Entails.of_eq (bigSep_sep' Finset.univ (fun k : Fin 7 => semVal (snd c k) 0) (fun k : Fin 7 => own C c (lentS k.val)))) $$ Hs
  icases Hs with ⟨Zs, Hs⟩
  ihave Hi := (Entails.of_eq (own_shares C c).symm) $$ [Hs Hi]
  · isplitl [Hs] <;> iassumption
  ihave Ho := (rows_close C c) $$ [Ho Hr]
  · isplitl [Ho] <;> iassumption
  iapply Hk
  isplitl [HO]; · iexact HO
  isplitl [Zb]; · iexact Zb
  isplitl [Zs Zr]
  · isplitl [Zs] <;> iassumption
  isplitl [Hi] <;> iassumption

end Cert.Cnt

end
-- ==== Proof.Cnt.Launch.lean ====
/-
The launch of the counts call: what every device's share is made of, how it is dealt, and the run of the whole program.

Every device mints the duty tokens of its own cells. A barrier token goes to the device that signals, an arrival's token to
the device that sends, a departure's token stays: one permutation of all tokens (`deal`).
-/
module

public import proofs.«01_k».proof.Proof.Cnt.Body
public import Idealize.ShloMosaic.Lib.Pipeline.CollectiveSegs

@[expose] public section

noncomputable section

namespace Cert.Cnt

open Cert.CountsIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The call's layout -/

/-- The staging semaphores. -/
abbrev stgSems : Fin 1 → List (DmaSem sig) := fun _ => Pipeline.specSems spec0
theorem cells_inj : Function.Injective (Pipeline.cellOf (nD := nD) (τ := τ) cfgs) :=
  Pipeline.cellOf_injective_of_table cfgs stgSems (fun p => match p with | ⟨0, _⟩ => rfl) (by decide) (by decide)
theorem winFacts : Pipeline.WinFacts spec0 := by decide
theorem block_pos : ∀ w : Fin 2, 0 < (spec0 w).block.numel := by decide
theorem arr_whole : ∀ w : Fin 2, (spec0 w).arr.IsWhole := fun w => match w with
  | ⟨0, _⟩ => Memref.isWhole_whole _
  | ⟨1, _⟩ => Memref.isWhole_whole _
theorem stage_whole : ∀ (w : Fin 2) (s : Fin (spec0 w).nbuf), ((spec0 w).stage s).IsWhole := fun w => match w with
  | ⟨0, _⟩ => fun _ => Memref.isWhole_whole _
  | ⟨1, _⟩ => fun _ => Memref.isWhole_whole _
theorem no_scratch (c : Dev nD) : (Pipeline.scopedRest cfg0.spec c : sProp 𝕄) = iprop(emp) :=
  Pipeline.scopedRest_eq_of_list spec0 c [] (by decide) (by decide)

/-! ## Conjunctions over cells -/

theorem bigSep_pairs (Φ : Bool × Fin 7 → sProp 𝕄) : bigSep Finset.univ Φ
    = iprop((bigSep Finset.univ fun x => Φ (true, x)) ∗ bigSep Finset.univ fun x => Φ (false, x)) := by
  rw [bigSep_univ_prod]
  exact bigSep_univ_eq_bigSepL [true, false] (by decide) (by decide) _

theorem bigSep_cid (Φ : Cid → sProp 𝕄) : bigSep Finset.univ Φ
    = iprop(Φ none ∗ (bigSep Finset.univ fun x => Φ (some (true, x))) ∗ bigSep Finset.univ fun x => Φ (some (false, x))) := by
  rw [show (Finset.univ : Finset Cid) = insert none (Finset.univ.map Function.Embedding.some) from by decide,
    bigSep_insert (by decide), bigSep_map]
  exact congrArg (fun A => iprop(Φ none ∗ A)) (bigSep_pairs fun bx => Φ (some bx))

/-! ## Tokens -/

/-- The device that pays duty `i` of cell `k` of device `c`, and the device whose cell that is for a payer `c`. -/
def payer : Cid → Fin 7 → Dev nD → Dev nD
  | none, i, c => bk c i
  | some (true, _), _, c => c
  | some (false, x), _, c => bk c x
def payee : Cid → Fin 7 → Dev nD → Dev nD
  | none, i, c => nb c i
  | some (true, _), _, c => c
  | some (false, x), _, c => nb c x

theorem payee_payer (k : Cid) (i : Fin 7) (c : Dev nD) : payee k i (payer k i c) = c := by
  rcases k with _ | ⟨_ | _, x⟩
  · exact nb_bk c i
  · exact nb_bk c x
  · rfl
theorem payer_payee (k : Cid) (i : Fin 7) (c : Dev nD) : payer k i (payee k i c) = c := by
  rcases k with _ | ⟨_ | _, x⟩
  · exact bk_nb c i
  · exact bk_nb c x
  · rfl

def deal : Dev nD × Cid × Fin 7 ≃ Dev nD × Cid × Fin 7 where
  toFun t := (payee t.2.1 t.2.2 t.1, t.2)
  invFun t := (payer t.2.1 t.2.2 t.1, t.2)
  left_inv t := Prod.ext (payer_payee _ _ _) rfl
  right_inv t := Prod.ext (payee_payer _ _ _) rfl

def tokOf (t : Dev nD × Cid × Fin 7) : GSem nD τ sig × ℕ × Fin 7 := (cell t.1 t.2.1, 0, t.2.2)
theorem tokOf_injective : Function.Injective tokOf := by
  rintro ⟨c, k, i⟩ ⟨c', k', i'⟩ h
  have h1 := cell_eq_iff.mp (congrArg Prod.fst h)
  have h2 : i = i' := congrArg (fun x : GSem nD τ sig × ℕ × Fin 7 => x.2.2) h
  exact Prod.ext h1.1 (Prod.ext h1.2 h2)

def allCells : Finset (GSem nD τ sig) := Finset.univ.map ⟨fun ck : Dev nD × Cid => cell ck.1 ck.2, cell_injective⟩
def allToks : Finset (GSem nD τ sig × ℕ × Fin 7) := Finset.univ.map ⟨tokOf, tokOf_injective⟩

def u₀ : UU := (initOf (Pipeline.cells cfgs cells_inj) (Pipeline.launchToks cfgs cells_inj), initOf allCells allToks)

/-- The tokens of a device's own cells, and those of the duties it pays. -/
def toks (c : Dev nD) : sProp 𝕄 := bigSep Finset.univ fun ki : Cid × Fin 7 => dutyTok ER (cell c ki.1) 0 ki.2
def payToks (c : Dev nD) : sProp 𝕄 := bigSep Finset.univ fun ki : Cid × Fin 7 => dutyTok ER (cell (payee ki.1 ki.2 c) ki.1) 0 ki.2

theorem toks_dealt : (bigSep Finset.univ fun c : Dev nD => (toks c : sProp 𝕄)) = bigSep Finset.univ fun c : Dev nD => payToks c := by
  unfold toks payToks
  rw [← bigSep_univ_prod (fun t : Dev nD × Cid × Fin 7 => (dutyTok ER (cell t.1 t.2.1) 0 t.2.2 : sProp 𝕄)), bigSep_univ_equiv deal, bigSep_univ_prod]
  rfl

theorem payToks_split (c : Dev nD) : (payToks c : sProp 𝕄)
    ⊢ iprop((bigSep Finset.univ fun k : Fin 7 => dutyTok ER (bar (nb c k)) 0 k)
        ∗ (bigSep Finset.univ fun k : Fin 7 => dutyTok ER (snd c k) 0 0) ∗ bigSep Finset.univ fun k : Fin 7 => dutyTok ER (rcv (nb c k) k) 0 0) := by
  unfold payToks
  rw [bigSep_univ_prod, bigSep_cid]
  refine BI.sep_mono (BI.Entails.refl _) (BI.sep_mono ?_ ?_)
  · exact bigSep_mono fun x _ => bigSep_elim (Φ := fun i : Fin 7 => dutyTok ER (snd c x) 0 i) (Finset.mem_univ 0)
  · exact bigSep_mono fun x _ => bigSep_elim (Φ := fun i : Fin 7 => dutyTok ER (rcv (nb c x) x) 0 i) (Finset.mem_univ 0)

/-! ## Launch credit -/

/-- What device `d` owes a cell of device `c`. -/
theorem owed_cell (d c : Dev nD) (x : Cid) : O₀ d (cell c x) ()
    = (seven.map fun k => if c = nb d k ∧ x = none then 1 else 0).sum + (seven.map fun k => if c = nb d k ∧ x = some (false, k) then NN else 0).sum := by
  unfold O₀ debts sigs puts
  rw [owe_apply, List.map_append, List.sum_append, List.map_map, List.map_map]
  refine congrArg₂ (fun l l' : List ℕ => l.sum + l'.sum) ?_ ?_
  · exact List.map_congr_left fun k _ => if_congr cell_eq_iff rfl rfl
  · exact List.map_congr_left fun k _ => if_congr cell_eq_iff rfl rfl

theorem owed_bar (d c : Dev nD) : O₀ d (bar c) () = (seven.map fun k => if c = nb d k then 1 else 0).sum := by
  rw [owed_cell, List.sum_eq_zero (l := seven.map fun k => if c = nb d k ∧ (none : Cid) = some (false, k) then NN else 0) (fun n hn => by
    obtain ⟨k, _, rfl⟩ := List.mem_map.mp hn
    exact if_neg fun h => by cases h.2), Nat.add_zero]
  exact congrArg List.sum (List.map_congr_left fun k _ => if_congr (and_iff_left rfl) rfl rfl)

theorem owed_rcv (d c : Dev nD) (x : Fin 7) : O₀ d (rcv c x) () = (seven.map fun k => if c = nb d k ∧ x = k then 1 else 0).sum * NN := by
  rw [owed_cell, List.sum_eq_zero (l := seven.map fun k => if c = nb d k ∧ (some (false, x) : Cid) = none then 1 else 0) (fun n hn => by
    obtain ⟨k, _, rfl⟩ := List.mem_map.mp hn
    exact if_neg fun h => by cases h.2), Nat.zero_add, ← List.sum_map_mul_right]
  refine congrArg List.sum (List.map_congr_left fun k _ => ?_)
  by_cases hk : c = nb d k ∧ x = k
  · obtain ⟨h1, rfl⟩ := hk
    rw [if_pos ⟨h1, rfl⟩, if_pos ⟨h1, rfl⟩, Nat.one_mul]
  · rw [if_neg hk, if_neg fun h' => hk ⟨h'.1, (Prod.ext_iff.mp (Option.some.inj h'.2)).2⟩, Nat.zero_mul]

theorem bar_count : ∀ c : Dev nD, (∑ d : Dev nD, (seven.map fun k => if c = nb d k then 1 else 0).sum) = 7 := by decide +kernel
theorem rcv_count : ∀ (c : Dev nD) (x : Fin 7), (∑ d : Dev nD, (seven.map fun k => if c = nb d k ∧ x = k then 1 else 0).sum) = 1 := by decide +kernel

theorem launch_bar (c : Dev nD) :
    tallyOn (bar c) (launchCredit (Pipeline.owing O₀) 0 (bar c)) = (tallyAt (bar c) () 7 : CellTallies nD τ sig Unit) := by
  unfold tallyAt; refine congrArg _ (Finsupp.ext fun u => ?_); cases u
  rw [Pipeline.launchCredit_owing, Finsupp.single_eq_same, Finset.sum_congr rfl fun d _ => owed_bar d c, bar_count]
theorem launch_rcv (c : Dev nD) (x : Fin 7) :
    tallyOn (rcv c x) (launchCredit (Pipeline.owing O₀) 0 (rcv c x)) = (tallyAt (rcv c x) () NN : CellTallies nD τ sig Unit) := by
  unfold tallyAt; refine congrArg _ (Finsupp.ext fun u => ?_); cases u
  rw [Pipeline.launchCredit_owing, Finsupp.single_eq_same, Finset.sum_congr rfl fun d _ => owed_rcv d c x, ← Finset.sum_mul, rcv_count, Nat.one_mul]

theorem creds (c : Dev nD) : (Pipeline.launchCred O₀ c : sProp 𝕄)
    ⊢ iprop(cred (tallyAt (bar c) () 7) ∗ bigSep Finset.univ fun k : Fin 7 => cred (tallyAt (rcv c k) () NN)) := by
  unfold Pipeline.launchCred
  refine (bigSep_subset (Finset.subset_univ (Finset.univ.map ⟨semOf, semOf_injective⟩))).trans ?_
  rw [bigSep_map, bigSep_cid]
  refine sep_mono (Entails.of_eq (congrArg cred (launch_bar c))) (sep_elim_right.trans (bigSep_mono fun x _ => Entails.of_eq (congrArg cred (launch_rcv c x))))

/-! ## A device's share -/

variable (m : (ℓ : Loc nD τ sig) → Buf (Elt F) ℓ) (ρ : Dev nD → PrngReg)

def s₀ : MemSt nD τ sig (Elt F) := ⟨m, fun _ => 0, ρ⟩

/-- Every device's counts. -/
def cv : CV F := fun c => (win0_0.blk (0 : Fin 1)).view.read (Elt F) (m ((c : Thread nD τ).loc main_arg0))

abbrev recs (K : Dev nD × Cid → ℕ) : sProp 𝕄 := records (cv m) K

/-- Positions and tokens, per device; with the records, what the cells are worth to it. -/
def linear (c : Dev nD) : sProp 𝕄 := iprop((bigSep Finset.univ fun k : Cid => atPos ER (cell c k) 0 ∅ 0) ∗ payToks c)
def G' (c : Dev nD) : sProp 𝕄 := iprop(∃ K, recs m K ∗ linear c)

def start (c : Dev nD) : sProp 𝕄 := iprop((∃ K, recs m K) ∗ levAts L lv ∗ kit c)

theorem kit_intro (c : Dev nD) :
    iprop(linear c ∗ cred (tallyAt (bar c) () 7) ∗ bigSep Finset.univ fun k : Fin 7 => cred (tallyAt (rcv c k) () NN)) ⊢ (kit c : sProp 𝕄) := by
  unfold linear kit
  rw [bigSep_cid]
  iintro ⟨⟨Ha, Ht⟩, Hc⟩
  ihave Ht := (payToks_split c) $$ Ht
  iframe Ht Ha Hc

def Φ₁ (c : Dev nD) : sProp 𝕄 := iprop(semVal (bar c) 0 ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => cv m c
    | ⟨1, _⟩ => allc (cv m)
  Φ t := match t with
    | ⟨0, _⟩ => start m c
    | ⟨_ + 1, _⟩ => Φ₁ c
  q _ := fullShare
  owed t := match t with
    | ⟨0, _⟩ => O₀ c
    | ⟨_ + 1, _⟩ => 0

/-! ## The body's obligation -/

def t₀ : Fin cfg0.N := ⟨0, by decide⟩
theorem fin_N (t : Fin cfg0.N) : t = t₀ := by
  have h : cfg0.N = 1 := by decide
  exact Fin.ext (by have := t.isLt; show t.val = 0; omega)
theorem fetched : ∀ t : Fin cfg0.N, (cfg0.win 0).fetch t = true := (by decide +kernel : ∀ t : Fin grid0.N, win0_0.fetch t = true)
theorem flushed : ∀ t : Fin cfg0.N, (cfg0.win 1).flush t = true := (by decide +kernel : ∀ t : Fin grid0.N, win0_1.flush t = true)

theorem bigSep_W (Φ : Fin cfg0.W → sProp 𝕄) : bigSep Finset.univ Φ = iprop(Φ (0 : Fin 2) ∗ Φ (1 : Fin 2)) :=
  bigSep_univ_eq_bigSepL [(0 : Fin 2), (1 : Fin 2)] (by decide) (by decide) Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((dats m ρ 0 c).Φ t₀.castSucc ∗ (dats m ρ 0 c).owesAt () t₀.castSucc
    ∗ (∃ d, stg c cc0_stg0_0 ((dats m ρ 0 c).before (0 : Fin 2) t₀ d)) ∗ (∃ d, stg c cc0_stg1_0 ((dats m ρ 0 c).before (1 : Fin 2) t₀ d)))
def bodyPost (c : Dev nD) : sProp 𝕄 :=
  iprop((dats m ρ 0 c).Φ t₀.succ ∗ (dats m ρ 0 c).owesAt () t₀.succ
    ∗ stg c cc0_stg0_0 ((dats m ρ 0 c).after (0 : Fin 2) t₀) ∗ stg c cc0_stg1_0 ((dats m ρ 0 c).after (1 : Fin 2) t₀))

theorem after_in (c : Dev nD) : (dats m ρ 0 c).after (0 : Fin 2) t₀ = cv m c := rfl
theorem after_out (c : Dev nD) : (dats m ρ 0 c).after (1 : Fin 2) t₀ = allc (cv m) := by dsimp only [dats]
theorem before_in (c : Dev nD) (d) : (dats m ρ 0 c).before (0 : Fin 2) t₀ d = cv m c := by
  unfold Dat.before; rw [if_pos (fetched t₀)]; rfl

theorem own_whole (C : CV F) (c : Dev nD) : own C c fullShare = (((c : Thread nD τ).loc cc0_stg0_0) ↦{fullShare} C c : sProp 𝕄) := by
  unfold own; rw [View.set_whole]

theorem sound_body (c : Dev nD) : bodyPre m ρ c ⊢ wpb c (bodyAt (F := F)) (fun _ => bodyPost m ρ c) := by
  rw [body_eq]
  unfold wpb
  rw [wp_deviceId]
  show _ ⊢ wpb c (prog c) (fun _ => bodyPost m ρ c)
  unfold bodyPre
  rw [show (dats m ρ 0 c).Φ t₀.castSucc = start m c from rfl]
  unfold start Dat.owesAt Pipeline.owesWithin
  simp only [before_in]
  rw [show (dats m ρ 0 c).owed t₀.castSucc = owe (debts c) from rfl]
  iintro ⟨⟨⟨%K, #HR⟩, #Hlev, Hk⟩, ⟨%V, -, HO⟩, ⟨%d0, %f0, %e0, Hi⟩, ⟨%d1, %f1, -, Ho⟩⟩
  subst e0
  ihave Hi := (Entails.of_eq (own_whole (cv m) c).symm) $$ Hi
  iapply (wp_body (cv m) K c) $$ [Hk HO Hi Ho]
  · isplitr; · iexact HR
    isplitr; · iexact Hlev
    isplitl [HO]; · unfold ow; iexists V; iexact HO
    isplitl [Hk]; · iexact Hk
    isplitl [Hi]; · iexact Hi
    iexists f1; iexact Ho
  iintro ⟨HO, Hbar, Hz, Hi, Ho⟩
  ihave Hi := (Entails.of_eq (own_whole (cv m) c)) $$ Hi
  unfold wpb
  rw [wp_ret]; imodintro
  unfold bodyPost
  rw [show (dats m ρ 0 c).Φ t₀.succ = Φ₁ c from rfl, after_in, after_out]
  unfold Φ₁ Dat.owesAt Pipeline.owesWithin ow
  rw [show (dats m ρ 0 c).owed t₀.succ = owe [] from rfl]
  icases HO with ⟨%V', HO⟩
  isplitl [Hbar Hz]
  · isplitl [Hbar] <;> iassumption
  isplitl [HO]
  · iexists V'
    isplitr; · ipureintro; exact fun _ _ => Or.inl trivial
    iexact HO
  isplitl [Hi]
  · iexists _; isplitr; · (ipureintro; rfl)
    iexact Hi
  iexists _; isplitr; · (ipureintro; rfl)
  iexact Ho

theorem defs_body : defs₀ (F := F) Proc.tc (0 : Fin 1) (t₀, cfg0.slots t₀) = bodyAt := by chain_rfl

theorem sound_of (c : Dev nD) (p : P F PUnit) (h : p = bodyAt) :
    bodyPre m ρ c ⊢ wp frame (wpE (defs₀ (F := F)) 𝒱₀ (c : Thread nD τ) none) Set.univ p (fun _ => bodyPost m ρ c) := by
  rw [h]; exact sound_body m ρ c

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_of m ρ c _ defs_body

/-! ## The cells, allocated -/

def osem (bx : Bool × Fin 7) : SemLoc sig := semOf (some bx)
theorem ownSemFacts : Pipeline.OwnSemFacts cfg0.spec osem := by decide

theorem share_eq (c : Dev nD) (w : Fin cfg0.W) : (dats m ρ 0 c).share w = fullShare := by unfold Dat.share; split <;> rfl

abbrev states (c : Dev nD) : sProp 𝕄 := bigSep Finset.univ fun k : Cid => roundState ER (rd (cv m)) (cell c k) 0
abbrev marks (c : Dev nD) : sProp 𝕄 := bigSep Finset.univ fun k : Cid => iprop(atPos ER (cell c k) 0 ∅ 0 ∗ reached ER (cell c k) 0)

def G (c : Dev nD) : sProp 𝕄 := iprop(states m c ∗ marks c ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cid => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro H
  imod (Rounds.fund ER (rd (cv m)) allCells allToks) $$ H with ⟨Hst, Hr, Hat, Ht⟩
  imodintro
  ihave Hst := (Entails.of_eq (hX fun g => roundState ER (rd (cv m)) g 0)) $$ Hst
  ihave Hat := (Entails.of_eq (hX fun g => atPos ER g 0 ∅ 0)) $$ Hat
  ihave Hr := (Entails.of_eq (hX fun g => reached ER g 0)) $$ Hr
  ihave Ht := (Entails.of_eq hT) $$ Ht
  unfold G states marks
  simp only [bigSep_sep']
  iframe Hst Hat Hr Ht

theorem semVals (c : Dev nD) :
    (bigSep Finset.univ fun k : Cid => (semVal (cell c k) 0 : sProp 𝕄))
      = iprop(semVal (bar c) 0 ∗ zeros c) := bigSep_cid _

theorem own_eq (c : Dev nD) : (Pipeline.ownSems0 (Ix := Unit) (Name := ℕ) (U := UU) (Lvl := ℕ) (Val := Elt F) (τ := τ) osem c : sProp 𝕄)
    = zeros c := bigSep_pairs _
theorem unscoped_eq (c : Dev nD) : (unscopedSems0 c : sProp 𝕄) = semVal (bar c) 0 := by
  unfold unscopedSems0; rw [bigSep_eq_bigSepL_of_eq [SemLoc.reg barS] (by decide) (by decide)]; rfl

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cid => iprop(∃ κ : ℕ, cellInv ER (rd (cv m)) κ (cell c k))) ∗ marks c ∗ toks c) := by
  have h : iprop((bigSep Finset.univ fun k : Cid => semVal (cell c k) 0) ∗ states m c)
      ⊢ (|={Set.univ}=> bigSep Finset.univ fun k : Cid => iprop(∃ κ : ℕ, cellInv ER (rd (cv m)) κ (cell c k)) : sProp 𝕄) := by
    unfold states
    rw [← bigSep_sep']
    exact (bigSep_mono fun k _ => (Rounds.body_intro ER (rd (cv m)) (cell c k)).trans inv_alloc).trans (bigSep_fupd _ _)
  rw [own_eq, unscoped_eq]
  unfold G
  iintro ⟨Hz, Hb, Hst, Hm, Ht⟩
  imod h $$ [Hz Hb Hst] with HI
  · rw [semVals]
    iframe Hb Hz Hst
  imodintro
  iframe HI Hm Ht

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cid => iprop(∃ κ : ℕ, cellInv ER (rd (cv m)) κ (cell c k))) ∗ marks c ∗ toks c) : sProp 𝕄)
      ⊢ bigSep Finset.univ (G' m) := by
  unfold marks
  simp only [bigSep_sep']
  rw [toks_dealt, ← bigSep_univ_prod (fun ck : Dev nD × Cid => iprop(∃ κ : ℕ, cellInv ER (rd (cv m)) κ (cell ck.1 ck.2))),
    ← bigSep_univ_prod (fun ck : Dev nD × Cid => (reached ER (cell ck.1 ck.2) 0 : sProp 𝕄))]
  iintro ⟨HI, ⟨Hat, #HR⟩, Ht⟩
  ihave HK := (BI.bigSep_exists_pi Finset.univ (fun (ck : Dev nD × Cid) (κ : ℕ) => (cellInv ER (rd (cv m)) κ (cell ck.1 ck.2) : sProp 𝕄))) $$ HI
  icases HK with ⟨%K, #HI⟩
  iapply (share_out (R := recs m K) (Φ := linear) fun c _ => by
    unfold G'
    iintro H
    iexists K
    iexact H)
  isplitr
  · unfold recs records
    iframe HI HR
  · unfold linear
    rw [bigSep_sep']
    iframe Hat Ht

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, ⟨%K, HR, HG⟩⟩
  ihave Hc := (creds c) $$ Hcr
  ihave Hk := (kit_intro c) $$ [HG Hc]
  · isplitl [HG] <;> iassumption
  imodintro
  isplitl
  · isplitl [HR]; · iexists K; iexact HR
    iframe Hlev Hk
  · iempintro

theorem phi_start (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl]
  exact sep_elim_left

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, no_scratch, own_eq, unscoped_eq]
  unfold Φ₁
  iintro ⟨Hb, Hz⟩
  isplitl [Hb]; · iexact Hb
  isplitl [Hz]; · iexact Hz
  iempintro

theorem staging_free (w : Fin cfg0.W) (s : Fin (cfg0.win w).nbuf) : ∀ k, semOf k ≠ .dma ((cfg0.win w).sem s) := by
  revert w s; decide

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((cfg0.win w).sem s)) () ≤ 0 := by
      unfold lv; rw [code_none (staging_free w s)]; exact Nat.le_refl 0
    rcases t with ⟨_ | _, ht⟩
    · exact mayWait c _ (debts c) 0 h0 (above_debts c)
    · exact mayWait c _ [] 0 h0 (above_nil 0)

/-! ## The run -/

def finalA (c : Dev nD) (w : Fin cfg0.W) : Buf (Elt F) ((cfg0.win w).arr.view.loc (c : Thread nD τ)) := (dats m ρ 0 c).arrAt w cfg0.N

set_option maxRecDepth 8000 in
/-- Every weakly fair execution of the whole program ends, with the arrays as computed and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cells_inj (0 : Fin 1)
    winFacts.to₀ ownSemFacts (Pipeline.PreFacts.none _) EP defs₀ 𝒱₀ m ρ main
    (hmain := fun _ => rfl)
    (hbody := body_obligation m ρ) (hne := block_pos) (harr := arr_whole) (hstage := stage_whole) (hshare := share_eq m ρ)
    (hdistinct := winFacts.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_start m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What it leaves -/

theorem final_in (c : Dev nD) (w : Fin cfg0.W) (h : (cfg0.win w).isOut = false) : finalA m ρ c w = m ((cfg0.win w).arr.view.loc (c : Thread nD τ)) :=
  (dats (F := F) m ρ 0 c).arrAt_in w h _

theorem final_out (c : Dev nD) : (win0_1.blk (0 : Fin 1)).view.read (Elt F) (finalA m ρ c (1 : Fin 2)) = allc (cv m) := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flushed _, if_pos rfl]
  exact (View.read_write_univ _ _).trans (after_out m ρ c)

end Cert.Cnt

end
-- ==== Proof.Cnt.Claims.lean ====
/-
The claims of the counts call: the frames, and its result against the reference's. The two printings of the call are the
same text, so the run proved of one is the run of the other.
-/
module

public import proofs.«01_k».proof.Defs
public import proofs.«01_k».proof.Proof.Cnt.Launch
public import Idealize.ShloMosaic.Lib.StableHlo.Run
public import Idealize.ShloMosaic.Lib.Quiescent
public import Idealize.ShloMosaic.Lib.Layout

@[expose] public section

noncomputable section

namespace Cert.Cnt

open Idealize.ShloMosaic Idealize.ShloMosaic.TcCoe Idealize.SL.Sem

section

open Cert.CountsIdeal

variable {F : FTy → Type} [FloatOps F]

/-- The call ends, its argument as it was, every counter at zero. -/
def Quiet (m : (ℓ : Loc nD τ sig) → Buf (Elt F) ℓ) (g : Dev nD → PrngReg) : Prop :=
  θ_run (defs (F := F)) (onTc (τ := τ) (main (F := F))) ⟨m, fun _ => 0, g⟩
    (fun r => (∀ c : Dev nD, r.2.mem ((c.tc : Thread nD τ).loc main_arg0) = m ((c.tc : Thread nD τ).loc main_arg0)) ∧ r.2.sem = fun _ => 0)

theorem quiet (m : (ℓ : Loc nD τ sig) → Buf (Elt F) ℓ) (g : Dev nD → PrngReg) : Quiet m g :=
  (θ_run defs _ _).mono (fun _ h => ⟨fun c => (h.1 c (0 : Fin 2)).trans (final_in m g c (0 : Fin 2) rfl), h.2⟩) (run_main m g)

end

theorem frame_counts_ideal : Cert.quiescent_CountsIdeal := fun m g _ => quiet (F := Ideal) m g

/-! ## The other printing -/

theorem counts_same : Cert.Counts.defs₀ (F := Bits) = Cert.CountsIdeal.defs₀ (F := Bits) := by
  unfold Cert.Counts.defs₀ Cert.CountsIdeal.defs₀
  refine congrArg (Defs.onTc (nD := Cert.Counts.nD) (τ := Cert.Counts.τ) (sig := Cert.Counts.sig) (Val := Elt Bits) (Λ := Cert.Counts.Λ₀)) ?_
  funext l a
  obtain ⟨l, hl⟩ := l
  obtain _ | l := l
  · obtain ⟨t, s⟩ := a
    rfl
  · exact absurd hl (Nat.not_lt.2 (Nat.le_add_left _ _))
theorem defs_same : Cert.Counts.defs (F := Bits) = Cert.CountsIdeal.defs (F := Bits) :=
  congrArg (Pipeline.defs (nD := Cert.Counts.nD) (τ := Cert.Counts.τ) (sig := Cert.Counts.sig) (Val := Elt Bits) (Λ₀ := Cert.Counts.Λ₀) (Cert.Counts.pcfgs (F := Bits))) counts_same

theorem frame_counts : Cert.quiescent_Counts := fun m g _ => by
  have h := quiet (F := Bits) m g
  unfold Quiet at h
  rw [← defs_same] at h
  exact h

/-! ## The reference -/

section

open Cert.CountsReferenceIdeal Idealize.ShloMosaic.StableHlo

/-- The reference, which gives its argument back, runs no operation. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

theorem frame_counts_reference : Cert.quiescent_CountsReferenceIdeal := fun m g _ =>
  (θ_run defs _ _).mono (fun r h => ⟨h, Idealize.ShloMosaic.sem_eq_zero_of_no_sems (by decide) r.2⟩) (run_reference m g)

end

/-! ## The result -/

section

open Cert.CountsIdeal

/-- The rows of an array, one per device, are the array. -/
theorem allc_block {F : FTy → Type} [FloatOps F] (v : Vec F S8x128 .f32) : allc (F := F) (fun d => Layout.block S1x128 S8x128 0 8 d v) = v :=
  funext fun i => congrArg v (funext fun a => Fin.ext (match a with
    | ⟨0, _⟩ => show (i 0).val * 1 + 0 = (i 0).val by omega
    | ⟨1, _⟩ => rfl))

/-- Every device ends with all the counts. -/
theorem algebraic : Cert.algebraic_CountsIdeal_CountsReferenceIdeal := by
  intro m ρ m' ρ' _ hagree
  refine ⟨m' (((0 : Dev Cert.CountsReferenceIdeal.nD).tc : Thread _ Cert.CountsReferenceIdeal.τ).loc Cert.CountsReferenceIdeal.main_arg0), ?_, ?_⟩
  · refine (θ_run defs _ _).mono (fun _ h c => ⟨(h.1 c (1 : Fin 2)).trans ?_, (h.1 c (0 : Fin 2)).trans (final_in m ρ c 0 rfl)⟩) (run_main (F := Ideal) m ρ)
    -- each window's one block is its whole array, so reading it reads the array
    have z0 : (fun a => (win0_0.index (0 : Fin 1)) a * main_arg0.ty.shape.size a) = fun _ => 0 := funext fun a => by fin_cases a <;> decide
    have z1 : (fun a => (win0_1.index (0 : Fin 1)) a * main_v1.ty.shape.size a) = fun _ => 0 := funext fun a => by fin_cases a <;> decide
    have hi : ∀ d, cv m d = m ((d : Thread nD τ).loc main_arg0) := fun d => Memref.read_access_unit_zero (Elt Ideal) main_arg0 z0 (fun a => by fin_cases a <;> decide) _
    have ho := (Memref.read_access_unit_zero (Elt Ideal) main_v1 z1 (fun a => by fin_cases a <;> decide) _).symm.trans (final_out (F := Ideal) m ρ c)
    rw [show cv m = _ from funext fun d => (hi d).trans (hagree d)] at ho
    exact ho.trans (allc_block _)
  · exact (θ_run Cert.CountsReferenceIdeal.defs _ _).mono (fun _ h => ⟨h 0, h 0⟩) (run_reference m' ρ')

end

end Cert.Cnt

end
-- ==== Proof.lean ====
/-
The certificate: for each of the two calls, the frames of the call, of its idealization and of its reference, and its result
against the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Cube.Frames
public import proofs.«01_k».proof.Proof.Cube.Algebraic
public import proofs.«01_k».proof.Proof.Cnt.Claims

@[expose] public section

noncomputable section

namespace Cert.Proof

theorem claim : Cert.Claim := ⟨Cert.Kernel.Gen.facts, Cert.KernelIdeal.Gen.facts, Cert.ReferenceIdeal.Gen.facts,
  Cert.Cnt.bits, Cert.Cnt.ideal, Cert.Cnt.refIdeal,
  Cert.Cube.frame_kernel, Cert.Cube.frame_kernel_ideal, Cert.Cube.frame_reference,
  Cert.Cnt.frame_counts, Cert.Cnt.frame_counts_ideal, Cert.Cnt.frame_counts_reference,
  trivial, Cert.Cube.algebraic, trivial, Cert.Cnt.algebraic⟩

end Cert.Proof

end
